-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scorer [hPre_finite_scorer : Cert.Pre_finite_scorer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scorer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scorer [hPre_finite_scorer : Cert.Pre_finite_scorer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scorer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scorer [hKernelIdeal : Cert.KernelIdeal.Facts] [hPre_finite_scorer : Cert.Pre_finite_scorer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scorer m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scorer [hReferenceIdeal : Cert.ReferenceIdeal.Facts] [hPre_finite_scorer : Cert.Pre_finite_scorer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scorer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_scorer [hKernelIdeal : Cert.KernelIdeal.Facts] [hReferenceIdeal : Cert.ReferenceIdeal.Facts] [hPre_finite_scorer : Cert.Pre_finite_scorer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scorer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_scorer : Cert.Pre_finite_scorer.Facts),
    quiescent_Kernel (hKernel := hKernel)
    ∧ quiescent_KernelIdeal (hKernelIdeal := hKernelIdeal)
    ∧ quiescent_KernelIdeal_pre_finite_scorer (hKernelIdeal := hKernelIdeal) (hPre_finite_scorer := hPre_finite_scorer)
    ∧ quiescent_ReferenceIdeal (hReferenceIdeal := hReferenceIdeal)
    ∧ quiescent_ReferenceIdeal_pre_finite_scorer (hReferenceIdeal := hReferenceIdeal) (hPre_finite_scorer := hPre_finite_scorer)
    ∧ preserves_Kernel_KernelIdeal
    ∧ algebraic_KernelIdeal_ReferenceIdeal_pre_finite_scorer (hKernelIdeal := hKernelIdeal) (hReferenceIdeal := hReferenceIdeal) (hPre_finite_scorer := hPre_finite_scorer)
-- ==== Pre_finite_scorer.lean ====
abbrev S50000x512 : Shape := ⟨2, ![50000, 512]⟩
abbrev S50000 : Shape := ⟨1, ![50000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S50000x512 .f32) (main_arg1 : IVec S50000 32) (main_arg2 : FVec F S512x128 .f32) (main_arg3 : FVec F S128 .f32) (main_arg4 : FVec F S128x1 .f32) (main_arg5 : FVec F S1 .f32) : IVec S_ 1 :=
  let main_v0 : FVec F S128x1 .f32 := Host.absf main_arg4
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_c : IVec S_ 1 := constantI S_ 1 1#1
  let main_v3 : IVec S_ 1 := (fun x v => Host.reduce IntOp.andi x v reducesTo_S128x1_S_d0_1 h_S_) main_v2 main_c
  let main_v4 : FVec F S1 .f32 := Host.absf main_arg5
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S50000x512 : Shape := ⟨2, ![50000, 512]⟩
abbrev S50000 : Shape := ⟨1, ![50000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S25x1x2000 : Shape := ⟨3, ![25, 1, 2000]⟩
abbrev S1x128 : Shape := ⟨2, ![1, 128]⟩
abbrev S25x64x512 : Shape := ⟨3, ![25, 64, 512]⟩
abbrev S64x128 : Shape := ⟨2, ![64, 128]⟩
abbrev S2000x512 : Shape := ⟨2, ![2000, 512]⟩
abbrev S1x1x2000 : Shape := ⟨3, ![1, 1, 2000]⟩
abbrev S1x64x512 : Shape := ⟨3, ![1, 64, 512]⟩
abbrev S2000x128 : Shape := ⟨2, ![2000, 128]⟩
abbrev S2000 : Shape := ⟨1, ![2000]⟩
abbrev S2000x1 : Shape := ⟨2, ![2000, 1]⟩
abbrev S2000x64 : Shape := ⟨2, ![2000, 64]⟩
abbrev S64x512 : Shape := ⟨2, ![64, 512]⟩
abbrev S64 : Shape := ⟨1, ![64]⟩
abbrev S64x1 : Shape := ⟨2, ![64, 1]⟩
abbrev S25x1x512 : Shape := ⟨3, ![25, 1, 512]⟩
abbrev S2x128 : Shape := ⟨2, ![2, 128]⟩
abbrev S512 : Shape := ⟨1, ![512]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S1x512 : Shape := ⟨2, ![1, 512]⟩

abbrev nBuf : Table → Nat
  | .hbm => 12
  | .local .tc .vmem => 10
  | .local .scVector .vmem => 4
  | _ => 0

abbrev bufTy : (tb : Table) → Fin (nBuf tb) → BufTy
  | .hbm, ⟨0, _⟩ => ⟨S50000x512, .f32⟩
  | .hbm, ⟨1, _⟩ => ⟨S50000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S25x1x2000, .i32⟩
  | .hbm, ⟨7, _⟩ => ⟨S1x128, .f32⟩
  | .hbm, ⟨8, _⟩ => ⟨S1x128, .f32⟩
  | .hbm, ⟨9, _⟩ => ⟨S25x64x512, .f32⟩
  | .hbm, ⟨10, _⟩ => ⟨S64x128, .f32⟩
  | .hbm, ⟨11, _⟩ => ⟨S64x512, .f32⟩
  | .local .tc .vmem, ⟨0, _⟩ => ⟨S2000x512, .f32⟩
  | .local .tc .vmem, ⟨1, _⟩ => ⟨S2000x512, .f32⟩
  | .local .tc .vmem, ⟨2, _⟩ => ⟨S1x1x2000, .i32⟩
  | .local .tc .vmem, ⟨3, _⟩ => ⟨S1x1x2000, .i32⟩
  | .local .tc .vmem, ⟨4, _⟩ => ⟨S512x128, .f32⟩
  | .local .tc .vmem, ⟨5, _⟩ => ⟨S1x128, .f32⟩
  | .local .tc .vmem, ⟨6, _⟩ => ⟨S1x128, .f32⟩
  | .local .tc .vmem, ⟨7, _⟩ => ⟨S1x64x512, .f32⟩
  | .local .tc .vmem, ⟨8, _⟩ => ⟨S1x64x512, .f32⟩
  | .local .tc .vmem, ⟨9, _⟩ => ⟨S64x128, .f32⟩
  | .local .scVector .vmem, ⟨0, _⟩ => ⟨S25x1x512, .f32⟩
  | .local .scVector .vmem, ⟨1, _⟩ => ⟨S25x1x512, .f32⟩
  | .local .scVector .vmem, ⟨2, _⟩ => ⟨S2x128, .f32⟩
  | .local .scVector .vmem, ⟨3, _⟩ => ⟨S512, .f32⟩
  | _, _ => ⟨S50000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v3_0_scv : Ref sig .scVector := ⟨.hbm, 9, rfl⟩
abbrev main_v3_1_scv : Ref sig .scVector := ⟨.hbm, 10, rfl⟩
abbrev main_v4_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let c0_i32 : BitVec 32 := 0#32
  ![v2.toNat, 0]
def k1_off2 (i : grid1.Coords) : Fin 3 → Nat :=
  let c0_i32_1 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let c0_i32_2 : BitVec 32 := 0#32
  ![0, v2.toNat, 0]
def k1_off3 (i : grid1.Coords) : Fin 3 → Nat :=
  let c0_i32_5 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let c1_i32 : BitVec 32 := 1#32
  let v7 : BitVec 32 := Scalar.addi v2 c1_i32
  let c0_i32_6 : BitVec 32 := 0#32
  ![0, v7.toNat, 0]
@[reducible] def k1_t1_loop : Scf.Loop 32 :=
  let c0_i32_62 : BitVec 32 := 0#32
  let c25_i32 : BitVec 32 := 25#32
  let v135 : BitVec 32 := Scalar.addi c0_i32_62 c25_i32
  let c1_i32_63 : BitVec 32 := 1#32
  ⟨c0_i32_62, v135, c1_i32_63⟩
def k1_off4 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v516 : Index := Scalar.indexCast arg11
  let c0_i32_163 : BitVec 32 := 0#32
  let v517 : Index := Scalar.indexCast c0_i32_163
  let c0_164 : Index := 0#32
  ![v516.toNat, 0, 0]
def k1_off5 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v521 : Index := Scalar.indexCast arg11
  let c0_i32_165 : BitVec 32 := 0#32
  let v522 : Index := Scalar.indexCast c0_i32_165
  let c16_166 : Index := 16#32
  ![v521.toNat, 0, 16]
def k1_off6 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v526 : Index := Scalar.indexCast arg11
  let c0_i32_167 : BitVec 32 := 0#32
  let v527 : Index := Scalar.indexCast c0_i32_167
  let c32_168 : Index := 32#32
  ![v526.toNat, 0, 32]
def k1_off7 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v531 : Index := Scalar.indexCast arg11
  let c0_i32_169 : BitVec 32 := 0#32
  let v532 : Index := Scalar.indexCast c0_i32_169
  let c48_170 : Index := 48#32
  ![v531.toNat, 0, 48]
def k1_off8 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v536 : Index := Scalar.indexCast arg11
  let c0_i32_171 : BitVec 32 := 0#32
  let v537 : Index := Scalar.indexCast c0_i32_171
  let c64_172 : Index := 64#32
  ![v536.toNat, 0, 64]
def k1_off9 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v541 : Index := Scalar.indexCast arg11
  let c0_i32_173 : BitVec 32 := 0#32
  let v542 : Index := Scalar.indexCast c0_i32_173
  let c80_174 : Index := 80#32
  ![v541.toNat, 0, 80]
def k1_off10 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v546 : Index := Scalar.indexCast arg11
  let c0_i32_175 : BitVec 32 := 0#32
  let v547 : Index := Scalar.indexCast c0_i32_175
  let c96_176 : Index := 96#32
  ![v546.toNat, 0, 96]
def k1_off11 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v551 : Index := Scalar.indexCast arg11
  let c0_i32_177 : BitVec 32 := 0#32
  let v552 : Index := Scalar.indexCast c0_i32_177
  let c112_178 : Index := 112#32
  ![v551.toNat, 0, 112]
def k1_off12 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v556 : Index := Scalar.indexCast arg11
  let c0_i32_179 : BitVec 32 := 0#32
  let v557 : Index := Scalar.indexCast c0_i32_179
  let c128_180 : Index := 128#32
  ![v556.toNat, 0, 128]
def k1_off13 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v561 : Index := Scalar.indexCast arg11
  let c0_i32_181 : BitVec 32 := 0#32
  let v562 : Index := Scalar.indexCast c0_i32_181
  let c144_182 : Index := 144#32
  ![v561.toNat, 0, 144]
def k1_off14 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v566 : Index := Scalar.indexCast arg11
  let c0_i32_183 : BitVec 32 := 0#32
  let v567 : Index := Scalar.indexCast c0_i32_183
  let c160_184 : Index := 160#32
  ![v566.toNat, 0, 160]
def k1_off15 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v571 : Index := Scalar.indexCast arg11
  let c0_i32_185 : BitVec 32 := 0#32
  let v572 : Index := Scalar.indexCast c0_i32_185
  let c176_186 : Index := 176#32
  ![v571.toNat, 0, 176]
def k1_off16 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v576 : Index := Scalar.indexCast arg11
  let c0_i32_187 : BitVec 32 := 0#32
  let v577 : Index := Scalar.indexCast c0_i32_187
  let c192_188 : Index := 192#32
  ![v576.toNat, 0, 192]
def k1_off17 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v581 : Index := Scalar.indexCast arg11
  let c0_i32_189 : BitVec 32 := 0#32
  let v582 : Index := Scalar.indexCast c0_i32_189
  let c208_190 : Index := 208#32
  ![v581.toNat, 0, 208]
def k1_off18 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v586 : Index := Scalar.indexCast arg11
  let c0_i32_191 : BitVec 32 := 0#32
  let v587 : Index := Scalar.indexCast c0_i32_191
  let c224_192 : Index := 224#32
  ![v586.toNat, 0, 224]
def k1_off19 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v591 : Index := Scalar.indexCast arg11
  let c0_i32_193 : BitVec 32 := 0#32
  let v592 : Index := Scalar.indexCast c0_i32_193
  let c240_194 : Index := 240#32
  ![v591.toNat, 0, 240]
def k1_off20 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v596 : Index := Scalar.indexCast arg11
  let c0_i32_195 : BitVec 32 := 0#32
  let v597 : Index := Scalar.indexCast c0_i32_195
  let c256_196 : Index := 256#32
  ![v596.toNat, 0, 256]
def k1_off21 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v601 : Index := Scalar.indexCast arg11
  let c0_i32_197 : BitVec 32 := 0#32
  let v602 : Index := Scalar.indexCast c0_i32_197
  let c272_198 : Index := 272#32
  ![v601.toNat, 0, 272]
def k1_off22 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v606 : Index := Scalar.indexCast arg11
  let c0_i32_199 : BitVec 32 := 0#32
  let v607 : Index := Scalar.indexCast c0_i32_199
  let c288_200 : Index := 288#32
  ![v606.toNat, 0, 288]
def k1_off23 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v611 : Index := Scalar.indexCast arg11
  let c0_i32_201 : BitVec 32 := 0#32
  let v612 : Index := Scalar.indexCast c0_i32_201
  let c304_202 : Index := 304#32
  ![v611.toNat, 0, 304]
def k1_off24 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v616 : Index := Scalar.indexCast arg11
  let c0_i32_203 : BitVec 32 := 0#32
  let v617 : Index := Scalar.indexCast c0_i32_203
  let c320_204 : Index := 320#32
  ![v616.toNat, 0, 320]
def k1_off25 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v621 : Index := Scalar.indexCast arg11
  let c0_i32_205 : BitVec 32 := 0#32
  let v622 : Index := Scalar.indexCast c0_i32_205
  let c336_206 : Index := 336#32
  ![v621.toNat, 0, 336]
def k1_off26 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v626 : Index := Scalar.indexCast arg11
  let c0_i32_207 : BitVec 32 := 0#32
  let v627 : Index := Scalar.indexCast c0_i32_207
  let c352_208 : Index := 352#32
  ![v626.toNat, 0, 352]
def k1_off27 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v631 : Index := Scalar.indexCast arg11
  let c0_i32_209 : BitVec 32 := 0#32
  let v632 : Index := Scalar.indexCast c0_i32_209
  let c368_210 : Index := 368#32
  ![v631.toNat, 0, 368]
def k1_off28 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v636 : Index := Scalar.indexCast arg11
  let c0_i32_211 : BitVec 32 := 0#32
  let v637 : Index := Scalar.indexCast c0_i32_211
  let c384_212 : Index := 384#32
  ![v636.toNat, 0, 384]
def k1_off29 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v641 : Index := Scalar.indexCast arg11
  let c0_i32_213 : BitVec 32 := 0#32
  let v642 : Index := Scalar.indexCast c0_i32_213
  let c400_214 : Index := 400#32
  ![v641.toNat, 0, 400]
def k1_off30 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v646 : Index := Scalar.indexCast arg11
  let c0_i32_215 : BitVec 32 := 0#32
  let v647 : Index := Scalar.indexCast c0_i32_215
  let c416_216 : Index := 416#32
  ![v646.toNat, 0, 416]
def k1_off31 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v651 : Index := Scalar.indexCast arg11
  let c0_i32_217 : BitVec 32 := 0#32
  let v652 : Index := Scalar.indexCast c0_i32_217
  let c432_218 : Index := 432#32
  ![v651.toNat, 0, 432]
def k1_off32 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v656 : Index := Scalar.indexCast arg11
  let c0_i32_219 : BitVec 32 := 0#32
  let v657 : Index := Scalar.indexCast c0_i32_219
  let c448_220 : Index := 448#32
  ![v656.toNat, 0, 448]
def k1_off33 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v661 : Index := Scalar.indexCast arg11
  let c0_i32_221 : BitVec 32 := 0#32
  let v662 : Index := Scalar.indexCast c0_i32_221
  let c464_222 : Index := 464#32
  ![v661.toNat, 0, 464]
def k1_off34 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v666 : Index := Scalar.indexCast arg11
  let c0_i32_223 : BitVec 32 := 0#32
  let v667 : Index := Scalar.indexCast c0_i32_223
  let c480_224 : Index := 480#32
  ![v666.toNat, 0, 480]
def k1_off35 (k1_t1 : Fin k1_t1_loop.trips) : Fin 3 → Nat :=
  let c0_i32_62 : BitVec 32 := 0#32
  let c1_i32_63 : BitVec 32 := 1#32
  let arg11 : BitVec 32 := Scf.iv c0_i32_62 c1_i32_63 k1_t1
  let v671 : Index := Scalar.indexCast arg11
  let c0_i32_225 : BitVec 32 := 0#32
  let v672 : Index := Scalar.indexCast c0_i32_225
  let c496_226 : Index := 496#32
  ![v671.toNat, 0, 496]
def k1_off36 (i : grid1.Coords) (c0_i32_73 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let v265 : BitVec 32 := Scalar.addi v2 c0_i32_73
  let c0_i32_163_r0 : BitVec 32 := 0#32
  ![v265.toNat, 0]
@[reducible] def k1_t2_loop : Scf.Loop 32 :=
  let c0_i32_126 : BitVec 32 := 0#32
  let c25_i32_127 : BitVec 32 := 25#32
  let v385 : BitVec 32 := Scalar.addi c0_i32_126 c25_i32_127
  let c1_i32_128 : BitVec 32 := 1#32
  ⟨c0_i32_126, v385, c1_i32_128⟩
def k1_off37 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v516 : Index := Scalar.indexCast arg11
  let c0_i32_163 : BitVec 32 := 0#32
  let v517 : Index := Scalar.indexCast c0_i32_163
  let c0_164 : Index := 0#32
  ![v516.toNat, 0, 0]
def k1_off38 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v521 : Index := Scalar.indexCast arg11
  let c0_i32_165 : BitVec 32 := 0#32
  let v522 : Index := Scalar.indexCast c0_i32_165
  let c16_166 : Index := 16#32
  ![v521.toNat, 0, 16]
def k1_off39 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v526 : Index := Scalar.indexCast arg11
  let c0_i32_167 : BitVec 32 := 0#32
  let v527 : Index := Scalar.indexCast c0_i32_167
  let c32_168 : Index := 32#32
  ![v526.toNat, 0, 32]
def k1_off40 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v531 : Index := Scalar.indexCast arg11
  let c0_i32_169 : BitVec 32 := 0#32
  let v532 : Index := Scalar.indexCast c0_i32_169
  let c48_170 : Index := 48#32
  ![v531.toNat, 0, 48]
def k1_off41 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v536 : Index := Scalar.indexCast arg11
  let c0_i32_171 : BitVec 32 := 0#32
  let v537 : Index := Scalar.indexCast c0_i32_171
  let c64_172 : Index := 64#32
  ![v536.toNat, 0, 64]
def k1_off42 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v541 : Index := Scalar.indexCast arg11
  let c0_i32_173 : BitVec 32 := 0#32
  let v542 : Index := Scalar.indexCast c0_i32_173
  let c80_174 : Index := 80#32
  ![v541.toNat, 0, 80]
def k1_off43 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v546 : Index := Scalar.indexCast arg11
  let c0_i32_175 : BitVec 32 := 0#32
  let v547 : Index := Scalar.indexCast c0_i32_175
  let c96_176 : Index := 96#32
  ![v546.toNat, 0, 96]
def k1_off44 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v551 : Index := Scalar.indexCast arg11
  let c0_i32_177 : BitVec 32 := 0#32
  let v552 : Index := Scalar.indexCast c0_i32_177
  let c112_178 : Index := 112#32
  ![v551.toNat, 0, 112]
def k1_off45 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v556 : Index := Scalar.indexCast arg11
  let c0_i32_179 : BitVec 32 := 0#32
  let v557 : Index := Scalar.indexCast c0_i32_179
  let c128_180 : Index := 128#32
  ![v556.toNat, 0, 128]
def k1_off46 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v561 : Index := Scalar.indexCast arg11
  let c0_i32_181 : BitVec 32 := 0#32
  let v562 : Index := Scalar.indexCast c0_i32_181
  let c144_182 : Index := 144#32
  ![v561.toNat, 0, 144]
def k1_off47 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v566 : Index := Scalar.indexCast arg11
  let c0_i32_183 : BitVec 32 := 0#32
  let v567 : Index := Scalar.indexCast c0_i32_183
  let c160_184 : Index := 160#32
  ![v566.toNat, 0, 160]
def k1_off48 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v571 : Index := Scalar.indexCast arg11
  let c0_i32_185 : BitVec 32 := 0#32
  let v572 : Index := Scalar.indexCast c0_i32_185
  let c176_186 : Index := 176#32
  ![v571.toNat, 0, 176]
def k1_off49 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v576 : Index := Scalar.indexCast arg11
  let c0_i32_187 : BitVec 32 := 0#32
  let v577 : Index := Scalar.indexCast c0_i32_187
  let c192_188 : Index := 192#32
  ![v576.toNat, 0, 192]
def k1_off50 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v581 : Index := Scalar.indexCast arg11
  let c0_i32_189 : BitVec 32 := 0#32
  let v582 : Index := Scalar.indexCast c0_i32_189
  let c208_190 : Index := 208#32
  ![v581.toNat, 0, 208]
def k1_off51 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v586 : Index := Scalar.indexCast arg11
  let c0_i32_191 : BitVec 32 := 0#32
  let v587 : Index := Scalar.indexCast c0_i32_191
  let c224_192 : Index := 224#32
  ![v586.toNat, 0, 224]
def k1_off52 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v591 : Index := Scalar.indexCast arg11
  let c0_i32_193 : BitVec 32 := 0#32
  let v592 : Index := Scalar.indexCast c0_i32_193
  let c240_194 : Index := 240#32
  ![v591.toNat, 0, 240]
def k1_off53 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v596 : Index := Scalar.indexCast arg11
  let c0_i32_195 : BitVec 32 := 0#32
  let v597 : Index := Scalar.indexCast c0_i32_195
  let c256_196 : Index := 256#32
  ![v596.toNat, 0, 256]
def k1_off54 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v601 : Index := Scalar.indexCast arg11
  let c0_i32_197 : BitVec 32 := 0#32
  let v602 : Index := Scalar.indexCast c0_i32_197
  let c272_198 : Index := 272#32
  ![v601.toNat, 0, 272]
def k1_off55 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v606 : Index := Scalar.indexCast arg11
  let c0_i32_199 : BitVec 32 := 0#32
  let v607 : Index := Scalar.indexCast c0_i32_199
  let c288_200 : Index := 288#32
  ![v606.toNat, 0, 288]
def k1_off56 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v611 : Index := Scalar.indexCast arg11
  let c0_i32_201 : BitVec 32 := 0#32
  let v612 : Index := Scalar.indexCast c0_i32_201
  let c304_202 : Index := 304#32
  ![v611.toNat, 0, 304]
def k1_off57 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v616 : Index := Scalar.indexCast arg11
  let c0_i32_203 : BitVec 32 := 0#32
  let v617 : Index := Scalar.indexCast c0_i32_203
  let c320_204 : Index := 320#32
  ![v616.toNat, 0, 320]
def k1_off58 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v621 : Index := Scalar.indexCast arg11
  let c0_i32_205 : BitVec 32 := 0#32
  let v622 : Index := Scalar.indexCast c0_i32_205
  let c336_206 : Index := 336#32
  ![v621.toNat, 0, 336]
def k1_off59 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v626 : Index := Scalar.indexCast arg11
  let c0_i32_207 : BitVec 32 := 0#32
  let v627 : Index := Scalar.indexCast c0_i32_207
  let c352_208 : Index := 352#32
  ![v626.toNat, 0, 352]
def k1_off60 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v631 : Index := Scalar.indexCast arg11
  let c0_i32_209 : BitVec 32 := 0#32
  let v632 : Index := Scalar.indexCast c0_i32_209
  let c368_210 : Index := 368#32
  ![v631.toNat, 0, 368]
def k1_off61 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v636 : Index := Scalar.indexCast arg11
  let c0_i32_211 : BitVec 32 := 0#32
  let v637 : Index := Scalar.indexCast c0_i32_211
  let c384_212 : Index := 384#32
  ![v636.toNat, 0, 384]
def k1_off62 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v641 : Index := Scalar.indexCast arg11
  let c0_i32_213 : BitVec 32 := 0#32
  let v642 : Index := Scalar.indexCast c0_i32_213
  let c400_214 : Index := 400#32
  ![v641.toNat, 0, 400]
def k1_off63 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v646 : Index := Scalar.indexCast arg11
  let c0_i32_215 : BitVec 32 := 0#32
  let v647 : Index := Scalar.indexCast c0_i32_215
  let c416_216 : Index := 416#32
  ![v646.toNat, 0, 416]
def k1_off64 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v651 : Index := Scalar.indexCast arg11
  let c0_i32_217 : BitVec 32 := 0#32
  let v652 : Index := Scalar.indexCast c0_i32_217
  let c432_218 : Index := 432#32
  ![v651.toNat, 0, 432]
def k1_off65 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v656 : Index := Scalar.indexCast arg11
  let c0_i32_219 : BitVec 32 := 0#32
  let v657 : Index := Scalar.indexCast c0_i32_219
  let c448_220 : Index := 448#32
  ![v656.toNat, 0, 448]
def k1_off66 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v661 : Index := Scalar.indexCast arg11
  let c0_i32_221 : BitVec 32 := 0#32
  let v662 : Index := Scalar.indexCast c0_i32_221
  let c464_222 : Index := 464#32
  ![v661.toNat, 0, 464]
def k1_off67 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v666 : Index := Scalar.indexCast arg11
  let c0_i32_223 : BitVec 32 := 0#32
  let v667 : Index := Scalar.indexCast c0_i32_223
  let c480_224 : Index := 480#32
  ![v666.toNat, 0, 480]
def k1_off68 (k1_t2 : Fin k1_t2_loop.trips) : Fin 3 → Nat :=
  let c0_i32_126 : BitVec 32 := 0#32
  let c1_i32_128 : BitVec 32 := 1#32
  let arg11 : BitVec 32 := Scf.iv c0_i32_126 c1_i32_128 k1_t2
  let v671 : Index := Scalar.indexCast arg11
  let c0_i32_225 : BitVec 32 := 0#32
  let v672 : Index := Scalar.indexCast c0_i32_225
  let c496_226 : Index := 496#32
  ![v671.toNat, 0, 496]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x512 : Shape := ⟨2, ![50000, 512]⟩
abbrev S50000 : Shape := ⟨1, ![50000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S50000x128 : Shape := ⟨2, ![50000, 128]⟩
abbrev S1x128 : Shape := ⟨2, ![1, 128]⟩
abbrev S50000x1 : Shape := ⟨2, ![50000, 1]⟩
abbrev S1x1 : Shape := ⟨2, ![1, 1]⟩
abbrev S64 : Shape := ⟨1, ![64]⟩
abbrev S1x64 : Shape := ⟨2, ![1, 64]⟩
abbrev S50000x64 : Shape := ⟨2, ![50000, 64]⟩
abbrev S_ : Shape := ⟨0, ![]⟩
abbrev S64x512 : Shape := ⟨2, ![64, 512]⟩

abbrev nBuf : Space → Nat
  | .hbm => 62
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S50000x128, .f32⟩
  | .hbm, ⟨7, _⟩ => ⟨S1x128, .f32⟩
  | .hbm, ⟨8, _⟩ => ⟨S50000x128, .f32⟩
  | .hbm, ⟨9, _⟩ => ⟨S50000x128, .f32⟩
  | .hbm, ⟨10, _⟩ => ⟨S50000x128, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000, .f32⟩
  | .hbm, ⟨16, _⟩ => ⟨S50000x1, .i32⟩
  | .hbm, ⟨17, _⟩ => ⟨S64, .i32⟩
  | .hbm, ⟨18, _⟩ => ⟨S1x64, .i32⟩
  | .hbm, ⟨19, _⟩ => ⟨S50000x64, .i32⟩
  | .hbm, ⟨20, _⟩ => ⟨S50000x64, .i32⟩
  | .hbm, ⟨21, _⟩ => ⟨S50000x64, .i1⟩
  | .hbm, ⟨22, _⟩ => ⟨S50000x1, .f32⟩
  | .hbm, ⟨23, _⟩ => ⟨S_, .f32⟩
  | .hbm, ⟨24, _⟩ => ⟨S_, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S64, .f32⟩
  | .hbm, ⟨30, _⟩ => ⟨S_, .i32⟩
  | .hbm, ⟨31, _⟩ => ⟨S50000, .i32⟩
  | .hbm, ⟨32, _⟩ => ⟨S50000, .i1⟩
  | .hbm, ⟨33, _⟩ => ⟨S_, .i32⟩
  | .hbm, ⟨34, _⟩ => ⟨S50000, .i32⟩
  | .hbm, ⟨35, _⟩ => ⟨S50000, .i32⟩
  | .hbm, ⟨36, _⟩ => ⟨S50000, .i32⟩
  | .hbm, ⟨37, _⟩ => ⟨S50000x1, .i32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S64, .f32⟩
  | .hbm, ⟨43, _⟩ => ⟨S50000x1, .i32⟩
  | .hbm, ⟨44, _⟩ => ⟨S64, .f32⟩
  | .hbm, ⟨45, _⟩ => ⟨S_, .i32⟩
  | .hbm, ⟨46, _⟩ => ⟨S50000, .i32⟩
  | .hbm, ⟨47, _⟩ => ⟨S50000, .i1⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000, .i32⟩
  | .hbm, ⟨52, _⟩ => ⟨S50000x1, .i32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x512, .f32⟩
  | .hbm, ⟨57, _⟩ => ⟨S50000x512, .f32⟩
  | .hbm, ⟨58, _⟩ => ⟨S_, .f32⟩
  | .hbm, ⟨59, _⟩ => ⟨S64x512, .f32⟩
  | .hbm, ⟨60, _⟩ => ⟨S50000x1, .i32⟩
  | .hbm, ⟨61, _⟩ => ⟨S64x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Setup.lean ====
/-
  The launch of the pooling kernel as the run's proof sees it: the SparseCore configuration, the tables of functions,
  the resource algebra (the launch's handshakes, the staged region's rounds, the copies' counters), and short names for
  the arrays, the tile's scratch buffers and its semaphores.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

variable [FloatOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds, the staged region's rounds, the copies' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staged region's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays and the tile's buffers -/

/-- The partial sums, the partial denominators and the result, as locations of device `d`. -/
abbrev pLoc (d : Dev nD) : Loc nD τ sig := (SparseCore.T d).loc main_v3_0
abbrev tLoc (d : Dev nD) : Loc nD τ sig := (SparseCore.T d).loc main_v3_1
abbrev oLoc (d : Dev nD) : Loc nD τ sig := (SparseCore.T d).loc main_v4

abbrev pV : Memref sig .scVector .hbm S25x64x512 .f32 := Memref.whole main_v3_0_scv
abbrev tV : Memref sig .scVector .hbm S64x128 .f32 := Memref.whole main_v3_1_scv
abbrev oV : Memref sig .scVector .hbm S64x512 .f32 := Memref.whole main_v4_scv
/-- A tile's scratch: the partial sums of its two segments, its two rows of partial denominators, the finished row. -/
abbrev sA : Memref sig .scVector .vmem S25x1x512 .f32 := Memref.whole cc1_scratch0
abbrev sB : Memref sig .scVector .vmem S25x1x512 .f32 := Memref.whole cc1_scratch1
abbrev sT : Memref sig .scVector .vmem S2x128 .f32 := Memref.whole cc1_scratch2
abbrev sR : Memref sig .scVector .vmem S512 .f32 := Memref.whole cc1_scratch3

abbrev cV (L : grid1.Coords) : Fin τ.nSC := (L 0).castLE hcore1
abbrev jV (L : grid1.Coords) : Fin τ.nSub := (L 1).castLE hsub1
/-- The tile's thread. -/
abbrev VT (d : Dev nD) (L : grid1.Coords) : Thread nD τ := V d (cV L) (jV L)

/-- The segment a tile's row `r` (of two) is. -/
def seg (L : grid1.Coords) (r : Fin 2) : Fin 64 :=
  ⟨2 * (16 * (L 0).val + (L 1).val) + r.val, by
    have h0 : (L 0).val < 2 := (L 0).isLt
    have h1 : (L 1).val < 16 := (L 1).isLt
    have := r.isLt
    omega⟩

end Cert.Proof.Pool
-- ==== Proof.TcBody.lean ====
/-
  The TensorCore's body: one block of rows.
-/
module

public import proofs.«01_k».proof.Proof.Setup
public import Idealize.ShloMosaic.Lib.VecWindow

@[expose] public section

noncomputable section

namespace Cert.Proof.Pool

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The lane numbers along the accumulator's second axis. -/
abbrev lanes : IVec S64x128 32 := iota .tc S64x128 32 [1] iota_S64x128_d1_w32

/-- The accumulator after a block: the block's column of denominators put in its own lane, zeros first at block 0. -/
def tNext (k : ℕ) (s : FVec F S64 .f32) (old : S64x128.Idx → F .f32) : S64x128.Idx → F .f32 :=
  k0_pay2 (BitVec.ofNat 32 k) s lanes (if k = 0 then k0_pay1 (F := F) else old)

/-- The body's test for the first block. -/
theorem first_iff (i : grid0.Coords) :
    (Scalar.cmpi .ne (Scalar.extui (Scalar.cmpi .eq (BitVec.ofNat 32 (i 0).val) 0#32) : BitVec 32) 0#32 = 1#1) ↔ (i 0).val = 0 := by
  have h : (i 0).val < 25 := (i 0).isLt
  generalize (i 0).val = n at h
  have key : ∀ n : Fin 25, (Scalar.cmpi .ne (Scalar.extui (Scalar.cmpi .eq (BitVec.ofNat 32 n.val) 0#32) : BitVec 32) 0#32 = 1#1) ↔ n.val = 0 := by
    decide
  exact key ⟨n, h⟩

/-- What the accumulator reads once the zeros are stored, if this is the first block. -/
theorem read_first {M7 : Memref sig .tc .vmem S64x128 .f32} (f7 : M7.view.ty.Contents (Elt F)) {p q : Prop} [Decidable p] [Decidable q] (h : p ↔ q) :
    M7.view.readAt (Elt F) (Rect.unit (s := S64x128) ![0, 0] S64x128.size inb_S64x128_S64x128_0_0).toLoadRect
        (if _hc : p then M7.view.writes (Elt F) f7 [⟨Rect.unit (s := S64x128) ![0, 0] S64x128.size inb_S64x128_S64x128_0_0, k0_pay1 (F := F)⟩] else f7)
      = if q then k0_pay1 (F := F) else M7.view.read (Elt F) f7 := by
  by_cases hq : q
  · have hp := h.mpr hq
    rw [dif_pos hp, if_pos hq]; exact View.readAt_writes_full _ _ _ _ _ _
  · have hp : ¬p := fun hp => hq (h.mp hp)
    rw [dif_neg hp, if_neg hq]; exact View.readAt_full _ _ _

set_option maxHeartbeats 2000000 in
/-- One block's run: the five inputs as they were, the block's sums written, the accumulator advanced. -/
theorem body_run (c : Dev nD) (i : grid0.Coords)
    (M1 : Memref sig .tc .vmem S2000x512 .f32) (h1 : M1.IsWhole) (M2 : Memref sig .tc .vmem S1x1x2000 .i32) (h2 : M2.IsWhole)
    (M3 : Memref sig .tc .vmem S512x128 .f32) (h3 : M3.IsWhole) (M4 : Memref sig .tc .vmem S1x128 .f32) (h4 : M4.IsWhole)
    (M5 : Memref sig .tc .vmem S1x128 .f32) (h5 : M5.IsWhole) (M6 : Memref sig .tc .vmem S1x64x512 .f32) (h6 : M6.IsWhole)
    (M7 : Memref sig .tc .vmem S64x128 .f32) (h7 : M7.IsWhole)
    (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ)))
    (f7 : Buf (Elt F) (M7.view.loc (c : Thread nD τ))) :
    iprop(pt c M1 f1 ∗ pt c M2 f2 ∗ pt c M3 f3 ∗ pt c M4 f4 ∗ pt c M5 f5 ∗ pt c M6 f6 ∗ pt c M7 f7)
      ⊢ wp frame (wpE (defs₀ (F := F)) 𝒱₀ (c : Thread nD τ) none) Set.univ (cc0__tc_body i M1 h1 M2 h2 M3 h3 M4 h4 M5 h5 M6 h6 M7 h7)
          fun _ => iprop(pt c M1 f1 ∗ pt c M2 f2 ∗ pt c M3 f3 ∗ pt c M4 f4 ∗ pt c M5 f5
            ∗ (∃ g, ⌜M6.view.read (Elt F) g = k0_pay6 (M1.view.read (Elt F) f1) (M3.view.read (Elt F) f3) (M4.view.read (Elt F) f4)
                (M5.view.read (Elt F) f5) (M2.view.read (Elt F) f2)⌝ ∗ pt c M6 g)
            ∗ (∃ g, ⌜M7.view.read (Elt F) g = tNext (i 0).val (k0_pay5 (M1.view.read (Elt F) f1) (M3.view.read (Elt F) f3) (M4.view.read (Elt F) f4)
                (M5.view.read (Elt F) f5) (M2.view.read (Elt F) f2)) (M7.view.read (Elt F) f7)⌝ ∗ pt c M7 g)) := by
  rw [cc0__tc_body_eq_skeleton]; unfold cc0__tc_body_skel; rw [k0_part1_eq_skeleton]; unfold k0_part1_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]
  · iexists _; isplitr; swap; (· iexact H6); ipureintro
    refine (View.read_writes_full M6.view _ _ _ _).trans ?_
    rw [View.readAt_full M1.view, View.readAt_full M2.view, View.readAt_full M3.view, View.readAt_full M4.view, View.readAt_full M5.view]
  · iexists _; isplitr; swap; (· iexact H7); ipureintro
    refine (View.read_writes_full M7.view _ _ _ _).trans ?_
    rw [View.readAt_full M1.view, View.readAt_full M2.view, View.readAt_full M3.view, View.readAt_full M4.view, View.readAt_full M5.view]
    exact congrArg (k0_pay2 _ _ _) (read_first f7 (first_iff i))

end Cert.Proof.Pool
-- ==== Proof.Rows.lean ====
/-
  What one tile computes for one segment, as pure functions of the two rows it fetches: sixteen-lane chunks of the
  partial sums accumulated over the twenty-five blocks, the denominator's reciprocal, the finished row.
-/
module

public import proofs.«01_k».proof.Proof.Setup
public import Idealize.ShloMosaic.Lib.ValueLayout
public import Idealize.ShloMosaic.Lib.VecWindow

@[expose] public section

noncomputable section

namespace Cert.Proof.Pool

open Cert.KernelIdeal Cert.KernelIdeal.Gen
open Idealize.ShloMosaic Idealize.ShloMosaic.ValueIdx

variable {F : FTy → Type} [FloatOps F]

/-- Lane `16 c + l` of a row of 512, as a column. -/
def lane (c : ℕ) (l : Fin 16) : Fin 512 := ⟨(16 * c + l.val) % 512, Nat.mod_lt _ (by decide)⟩
/-- Lane `16 c + l` of a row of 128, as a column. -/
def tlane (c : ℕ) (l : Fin 16) : Fin 128 := ⟨(16 * c + l.val) % 128, Nat.mod_lt _ (by decide)⟩
/-- Block `k` of twenty-five. -/
def blk (k : ℕ) : Fin 25 := ⟨k % 25, Nat.mod_lt _ (by decide)⟩

/-- Chunk `c` of block `k`'s partial sums. -/
def chunk (f : S25x1x512.Idx → F .f32) (k c : ℕ) : FVec F S16 .f32 := fun j => f (ix3 (blk k) 0 (lane c (j 0)))

/-- Chunk `c` summed over the first `k` blocks, from zero, in the blocks' order. -/
def acc (f : S25x1x512.Idx → F .f32) (c : ℕ) : ℕ → FVec F S16 .f32
  | 0 => broadcast S16 (Scalar.ofBits .f32 0x00000000#32)
  | k + 1 => addf (acc f c k) (chunk f k c)

theorem acc_zero (f : S25x1x512.Idx → F .f32) (c : ℕ) : acc f c 0 = broadcast S16 (Scalar.ofBits .f32 0x00000000#32) := rfl
theorem acc_succ (f : S25x1x512.Idx → F .f32) (c k : ℕ) : acc f c (k + 1) = addf (acc f c k) (chunk f k c) := rfl

/-- The thirty-two accumulators after `k` blocks, as the loop carries them. -/
def accs (f : S25x1x512.Idx → F .f32) (k : ℕ) :=
  (acc f 0 k, acc f 1 k, acc f 2 k, acc f 3 k, acc f 4 k, acc f 5 k, acc f 6 k, acc f 7 k,
   acc f 8 k, acc f 9 k, acc f 10 k, acc f 11 k, acc f 12 k, acc f 13 k, acc f 14 k, acc f 15 k,
   acc f 16 k, acc f 17 k, acc f 18 k, acc f 19 k, acc f 20 k, acc f 21 k, acc f 22 k, acc f 23 k,
   acc f 24 k, acc f 25 k, acc f 26 k, acc f 27 k, acc f 28 k, acc f 29 k, acc f 30 k, acc f 31 k)

/-- A chunk loaded from the fetched rows at block `k`, column `16 c`, its unit axes dropped. -/
theorem chunk_load (v : View sig .scVector .vmem S25x1x512 .f32) {off : Fin 3 → ℕ} (k c : ℕ) (hoff : off = ![k, 0, 16 * c])
    (hk : k < 25) (hc : c < 32) (inb : ∀ a, off a + S1x1x16.size a ≤ S25x1x512.size a) (f : v.ty.Contents (Elt F))
    (h : S1x1x16.ShapeCasts S16) :
    shapeCast S16 (v.readAt (Elt F) (Rect.unit (s := S25x1x512) off S1x1x16.size inb).toLoadRect f : FVec F S1x1x16 .f32) h
      = chunk (v.read (Elt F) f) k c := by
  subst hoff
  funext j
  rw [View.readAt_unit v f inb rfl inb]
  refine (shapeCast_apply _ h j (ix3 0 0 (j 0)) ?_).trans ?_
  · rw [Shape.rowMajor_val_three, Shape.rowMajor_val_one]
    show (0 * 1 + 0) * 16 + (j 0).val = (j 0).val
    omega
  have hj : (j 0).val < 16 := (j 0).isLt
  refine congrArg (v.read (Elt F) f) (funext fun a => Fin.ext ?_)
  match a with
  | ⟨0, _⟩ => show k + 0 = k % 25; omega
  | ⟨1, _⟩ => rfl
  | ⟨2, _⟩ => show 16 * c + 1 * (j 0).val = (16 * c + (j 0).val) % 512; omega

/-- Chunk `c` of row `r` of the two rows of partial denominators. -/
def tchunk (f : S2x128.Idx → F .f32) (r : Fin 2) (c : ℕ) : FVec F S16 .f32 := fun j => f (ix2 r (tlane c (j 0)))

/-- A chunk loaded from the fetched denominators at row `r`, column `16 c`, its unit axis dropped. -/
theorem tchunk_load (v : View sig .scVector .vmem S2x128 .f32) {off : Fin 2 → ℕ} (r : Fin 2) (c : ℕ) (hoff : off = ![r.val, 16 * c])
    (hc : c < 8) (inb : ∀ a, off a + S1x16.size a ≤ S2x128.size a) (f : v.ty.Contents (Elt F)) (h : S1x16.ShapeCasts S16) :
    shapeCast S16 (v.readAt (Elt F) (Rect.unit (s := S2x128) off S1x16.size inb).toLoadRect f : FVec F S1x16 .f32) h
      = tchunk (v.read (Elt F) f) r c := by
  subst hoff
  funext j
  rw [View.readAt_unit v f inb rfl inb]
  refine (shapeCast_apply _ h j (ix2 0 (j 0)) ?_).trans ?_
  · rw [Shape.rowMajor_val_two, Shape.rowMajor_val_one]
    show 0 * 16 + (j 0).val = (j 0).val
    omega
  have hj : (j 0).val < 16 := (j 0).isLt
  refine congrArg (v.read (Elt F) f) (funext fun a => Fin.ext ?_)
  match a with
  | ⟨0, _⟩ => show r.val + 0 = r.val; omega
  | ⟨1, _⟩ => show 16 * c + 1 * (j 0).val = (16 * c + (j 0).val) % 128; omega

/-- The eight chunks of a row of partial denominators added up, lane by lane, from zero. -/
def tsum (f : S2x128.Idx → F .f32) (r : Fin 2) : ℕ → FVec F S16 .f32
  | 0 => broadcast S16 (Scalar.ofBits .f32 0x00000000#32)
  | c + 1 => addf (tsum f r c) (tchunk f r c)

/-- The sixteen lanes of a vector added up from the first, left to right. -/
def lsum (v : FVec F S16 .f32) : ℕ → F .f32
  | 0 => v (ix1 0)
  | n + 1 => Scalar.addf (lsum v n) (v (ix1 ⟨(n + 1) % 16, Nat.mod_lt _ (by decide)⟩))

/-- The reciprocal of a denominator on every lane, or zero where the denominator is not positive. -/
def recip (s : F .f32) : FVec F S16 .f32 :=
  select (cmpf .ogt (broadcast S16 s) (broadcast S16 (Scalar.ofBits .f32 0x00000000#32)))
    (divf (broadcast S16 (Scalar.ofBits .f32 0x3F800000#32)) (broadcast S16 s)) (broadcast S16 (Scalar.ofBits .f32 0x00000000#32))

/-- The factor a tile multiplies segment `r`'s sums by. -/
def factor (f : S2x128.Idx → F .f32) (r : Fin 2) : FVec F S16 .f32 := recip (lsum (tsum f r 8) 15)

/-- A row of sums, each chunk accumulated over all blocks, times a factor. -/
def rowVal (f : S25x1x512.Idx → F .f32) (u : FVec F S16 .f32) : FVec F S512 .f32 := fun j =>
  mulf (acc f ((j 0).val / 16) 25) u (ix1 ⟨(j 0).val % 16, Nat.mod_lt _ (by decide)⟩)

/-- The finished row of a segment: the accumulated sums times the factor. -/
def outRow (f : S25x1x512.Idx → F .f32) (t : S2x128.Idx → F .f32) (r : Fin 2) : FVec F S512 .f32 := rowVal f (factor t r)

/-- One lane taken out of a vector. -/
theorem extract_lane (v : FVec F S16 .f32) (n : ℕ) (hn : n < 16) (h : S16.Slices ![n] S1) (hp) :
    extractAt ![0] (extractStridedSlice S1 ![n] v h) hp = v (ix1 ⟨n, hn⟩) := by
  refine congrArg v (funext fun a => Fin.ext ?_)
  match a with
  | ⟨0, _⟩ => rfl

/-- The first row's factor as the program computes it, from the eight chunks it loads. -/
theorem factor_zero (f : S2x128.Idx → F .f32) (v0 v1 v2 v3 v4 v5 v6 v7 : Vec F S1x16 .f32)
    (h0 : shapeCast S16 v0 shapeCasts_S1x16_S16 = tchunk f 0 0) (h1 : shapeCast S16 v1 shapeCasts_S1x16_S16 = tchunk f 0 1)
    (h2 : shapeCast S16 v2 shapeCasts_S1x16_S16 = tchunk f 0 2) (h3 : shapeCast S16 v3 shapeCasts_S1x16_S16 = tchunk f 0 3)
    (h4 : shapeCast S16 v4 shapeCasts_S1x16_S16 = tchunk f 0 4) (h5 : shapeCast S16 v5 shapeCasts_S1x16_S16 = tchunk f 0 5)
    (h6 : shapeCast S16 v6 shapeCasts_S1x16_S16 = tchunk f 0 6) (h7 : shapeCast S16 v7 shapeCasts_S1x16_S16 = tchunk f 0 7) :
    k1_pay59 (k1_pay57 (k1_pay55 v0) (k1_pay56 v1) v2 v3 v4 v5 v6 v7) (k1_pay58 (k1_pay55 v0) (k1_pay56 v1) v2 v3 v4 v5 v6 v7) = factor f 0 := by
  have e : k1_pay57 (k1_pay55 v0) (k1_pay56 v1) v2 v3 v4 v5 v6 v7 = tsum f 0 8 := by
    unfold k1_pay57 k1_pay55 k1_pay56
    simp only [h0, h1, h2, h3, h4, h5, h6, h7]
    rfl
  unfold k1_pay59 k1_pay58
  rw [e]
  simp only [extract_lane _ 0 (by decide), extract_lane _ 1 (by decide), extract_lane _ 2 (by decide), extract_lane _ 3 (by decide),
    extract_lane _ 4 (by decide), extract_lane _ 5 (by decide), extract_lane _ 6 (by decide), extract_lane _ 7 (by decide),
    extract_lane _ 8 (by decide), extract_lane _ 9 (by decide), extract_lane _ 10 (by decide), extract_lane _ 11 (by decide),
    extract_lane _ 12 (by decide), extract_lane _ 13 (by decide), extract_lane _ 14 (by decide), extract_lane _ 15 (by decide)]
  rfl

/-- The second row's factor as the program computes it, from the eight chunks it loads. -/
theorem factor_one (f : S2x128.Idx → F .f32) (v0 v1 v2 v3 v4 v5 v6 v7 : Vec F S1x16 .f32)
    (h0 : shapeCast S16 v0 shapeCasts_S1x16_S16 = tchunk f 1 0) (h1 : shapeCast S16 v1 shapeCasts_S1x16_S16 = tchunk f 1 1)
    (h2 : shapeCast S16 v2 shapeCasts_S1x16_S16 = tchunk f 1 2) (h3 : shapeCast S16 v3 shapeCasts_S1x16_S16 = tchunk f 1 3)
    (h4 : shapeCast S16 v4 shapeCasts_S1x16_S16 = tchunk f 1 4) (h5 : shapeCast S16 v5 shapeCasts_S1x16_S16 = tchunk f 1 5)
    (h6 : shapeCast S16 v6 shapeCasts_S1x16_S16 = tchunk f 1 6) (h7 : shapeCast S16 v7 shapeCasts_S1x16_S16 = tchunk f 1 7) :
    k1_pay135 (k1_pay134 v0 v1 v2 v3 v4 v5 v6) v7 = factor f 1 := by
  have e : addf (k1_pay134 v0 v1 v2 v3 v4 v5 v6) (shapeCast S16 v7 shapeCasts_S1x16_S16) = tsum f 1 8 := by
    unfold k1_pay134
    simp only [h0, h1, h2, h3, h4, h5, h6, h7]
    rfl
  unfold k1_pay135
  simp only [e, extract_lane _ 0 (by decide), extract_lane _ 1 (by decide), extract_lane _ 2 (by decide), extract_lane _ 3 (by decide),
    extract_lane _ 4 (by decide), extract_lane _ 5 (by decide), extract_lane _ 6 (by decide), extract_lane _ 7 (by decide),
    extract_lane _ 8 (by decide), extract_lane _ 9 (by decide), extract_lane _ 10 (by decide), extract_lane _ 11 (by decide),
    extract_lane _ 12 (by decide), extract_lane _ 13 (by decide), extract_lane _ 14 (by decide), extract_lane _ 15 (by decide)]
  rfl

end Cert.Proof.Pool
-- ==== Proof.Region.lean ====
/-
  The staged TensorCore region: its proof data — the arrays at entry, what each block leaves in the staging buffers —
  and its body obligation.
-/
module

public import proofs.«01_k».proof.Proof.TcBody
public import proofs.«01_k».proof.Proof.Rows
public import Idealize.ShloMosaic.Lib.Pipeline.ValueKit.Geometry

@[expose] public section

noncomputable section

namespace Cert.Proof.Pool

open Cert.KernelIdeal Cert.KernelIdeal.Gen

open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The contents of the seven windows' arrays on core `c`. -/
abbrev Arrs (F : FTy → Type) (c : Dev nD) : Type := (w : Fin 7) → Buf (Elt F) ((cfg0.win w).arr.view.loc (c : Thread nD τ))

variable {c : Dev nD} (A : Arrs F c)

/-- Window `w`'s block at point `t`, read off the array. -/
def blkAt (w : Fin 7) (t : Fin cfg0.N) : ((cfg0.win w).xblock (cfg0.grid.coords t)).Idx → Elt F (cfg0.win w).elt :=
  ((cfg0.win w).blk t).view.read (Elt F) (A w)

/-- The five operand blocks of a point. -/
def xB (t : Fin cfg0.N) : S2000x512.Idx → F .f32 := blkAt A 0 t
def sB' (t : Fin cfg0.N) : S1x1x2000.Idx → BitVec 32 := blkAt A 1 t
def w1B (t : Fin cfg0.N) : S512x128.Idx → F .f32 := blkAt A 2 t
def b1B (t : Fin cfg0.N) : S1x128.Idx → F .f32 := blkAt A 3 t
def w2B (t : Fin cfg0.N) : S1x128.Idx → F .f32 := blkAt A 4 t

/-- The block's partial sums, and its column of partial denominators. -/
def pB (t : Fin cfg0.N) : S1x64x512.Idx → F .f32 := k0_pay6 (xB A t) (w1B A t) (b1B A t) (w2B A t) (sB' A t)
def dB (t : Fin cfg0.N) : FVec F S64 .f32 := k0_pay5 (xB A t) (w1B A t) (b1B A t) (w2B A t) (sB' A t)

theorem N25 : cfg0.N = 25 := N_0

/-- The accumulator after block `n`. -/
def tAcc : (n : ℕ) → n < cfg0.N → S64x128.Idx → F .f32
  | 0, h => tNext 0 (dB A ⟨0, h⟩) (k0_pay1 (F := F))
  | n + 1, h => tNext (n + 1) (dB A ⟨n + 1, h⟩) (tAcc n (Nat.lt_of_succ_lt h))

theorem coords_val : ∀ t : Fin grid0.N, (grid0.coords t 0).val = t.val := by decide

/-- The proof data on core `c`. -/
def dat : Dat τ (Elt F) (HIx 1) ℕ UU ℕ cfg0 c where
  A := A
  after w t := match w with
    | ⟨0, _⟩ => xB A t
    | ⟨1, _⟩ => sB' A t
    | ⟨2, _⟩ => w1B A t
    | ⟨3, _⟩ => b1B A t
    | ⟨4, _⟩ => w2B A t
    | ⟨5, _⟩ => pB A t
    | ⟨6, _⟩ => tAcc A t.val t.isLt
  Φ _ := iprop(emp)
  q _ := fullShare
  owed _ := (K (F := F)).Otc c 0
  recorded _ := {p | (K (F := F)).lev ((c : Thread nD τ), p.1) p.2 ≤ 0}

theorem before_0 (t : Fin cfg0.N) (d) : (dat A).before 0 t d = xB A t :=
  ((dat A).before_in_eq_fetched 0 rfl (fun _ => rfl) (fun _ _ _ => rfl) (fun _ => rfl) t d).trans rfl
theorem before_1 (t : Fin cfg0.N) (d) : (dat A).before 1 t d = sB' A t :=
  ((dat A).before_in_eq_fetched 1 rfl (fun _ => rfl) (fun _ _ _ => rfl) (fun _ => rfl) t d).trans rfl
theorem before_2 (t : Fin cfg0.N) (d) : (dat A).before 2 t d = w1B A t :=
  ((dat A).before_in_eq_fetched 2 rfl (fun _ => rfl) (fun _ _ _ => rfl) (fun _ => rfl) t d).trans rfl
theorem before_3 (t : Fin cfg0.N) (d) : (dat A).before 3 t d = b1B A t :=
  ((dat A).before_in_eq_fetched 3 rfl (fun _ => rfl) (fun _ _ _ => rfl) (fun _ => rfl) t d).trans rfl
theorem before_4 (t : Fin cfg0.N) (d) : (dat A).before 4 t d = w2B A t :=
  ((dat A).before_in_eq_fetched 4 rfl (fun _ => rfl) (fun _ _ _ => rfl) (fun _ => rfl) t d).trans rfl

/-- The accumulator advanced from what the body finds. -/
theorem step_6 (t : Fin cfg0.N) (d) :
    tNext (grid0.coords t 0).val (dB A t) ((dat A).before 6 t d) = tAcc A t.val t.isLt := by
  rw [coords_val]
  obtain ⟨n, hn⟩ := t
  cases n with
  | zero => rfl
  | succ n =>
    have hN : cfg0.N = 25 := N25
    have hf : (cfg0.win 6).flush ⟨n, Nat.lt_of_succ_lt hn⟩ = false := by
      rw [Bool.eq_false_iff]; intro h
      have h' := (flush0_6 _).mp h
      have : n + 1 < 25 := hN ▸ hn
      simp only at h'; omega
    rw [(dat A).before_out_kept 6 rfl ⟨n + 1, hn⟩ (Nat.succ_ne_zero n) hf (fun _ => rfl) (fun _ _ => rfl) d]
    rfl

/-- A whole memref owned is its buffer held. -/
theorem owns_whole {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

set_option maxHeartbeats 2000000 in
/-- The body obligation at every point. -/
theorem body_obligation : BodyObligation (dat A) (defs₀ (F := F)) 𝒱₀ none Set.univ := fun t => by
  rw [bigSep_W0, bigSep_W0]
  dsimp only
  rw [show (dat A).owesAt none t.succ = (dat A).owesAt none t.castSucc from rfl,
    show (dat A).Φ t.castSucc = iprop(emp) from rfl, show (dat A).Φ t.succ = iprop(emp) from rfl]
  simp only [fun X => owns_whole (F := F) (c := c) (stage0_0 (cfg0.slots t 0)) (hstage0_0 _) X,
    fun X => owns_whole (F := F) (c := c) (stage0_1 (cfg0.slots t 1)) (hstage0_1 _) X,
    fun X => owns_whole (F := F) (c := c) (stage0_2 (cfg0.slots t 2)) (hstage0_2 _) X,
    fun X => owns_whole (F := F) (c := c) (stage0_3 (cfg0.slots t 3)) (hstage0_3 _) X,
    fun X => owns_whole (F := F) (c := c) (stage0_4 (cfg0.slots t 4)) (hstage0_4 _) X,
    fun X => owns_whole (F := F) (c := c) (stage0_5 (cfg0.slots t 5)) (hstage0_5 _) X,
    fun X => owns_whole (F := F) (c := c) (stage0_6 (cfg0.slots t 6)) (hstage0_6 _) X]
  iintro ⟨HΦ, Howes, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, -, H5⟩, ⟨%d6, %f6, %e6, H6⟩⟩
  rw [before_0] at e0; rw [before_1] at e1; rw [before_2] at e2; rw [before_3] at e3; rw [before_4] at e4
  ihave Hwp := (body_run c (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (stage0_5 (cfg0.slots t 5)) (hstage0_5 _) (stage0_6 (cfg0.slots t 6)) (hstage0_6 _) f0 f1 f2 f3 f4 f5 f6) $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iapply (wp_wand frame _ _) $$ Hwp
  iintro %_ ⟨H0, H1, H2, H3, H4, ⟨%g5, %e5, H5⟩, ⟨%g6, %e6', H6⟩⟩
  rw [e0, e1, e2, e3, e4] at e5 e6'
  isplitl [HΦ]; · iexact HΦ
  isplitl [Howes]; · iexact Howes
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists g5; isplitr; swap; (· iexact H5); ipureintro; exact e5
  iexists g6; isplitr; swap; (· iexact H6); ipureintro
  rw [e6] at e6'
  exact e6'.trans (step_6 A t d6)

/-! ## The arrays at the end -/

/-- The partial sums, block by block, and the accumulator, as the region leaves them. -/
def pFin : S25x64x512.Idx → F .f32 := fun y => pB A ⟨(y 0).val, N25 ▸ (y 0).isLt⟩ (ix3 0 (y 1) (y 2))
def tFin : S64x128.Idx → F .f32 := tAcc A 24 (by rw [N25]; decide)

theorem index_5 : ∀ t : Fin cfg0.N, win0_5.index t = ![t.val, 0, 0] := (by decide +kernel : ∀ t : Fin grid0.N, _)

theorem pB_at (t : Fin cfg0.N) (y : S1x64x512.Idx) (i : S25x64x512.Idx) (h0 : (i 0).val = t.val) (h1 : (i 1).val = (y 1).val)
    (h2 : (i 2).val = (y 2).val) : pB A t y = pFin A i := by
  unfold pFin
  have e : (⟨(i 0).val, N25 ▸ (i 0).isLt⟩ : Fin cfg0.N) = t := Fin.ext h0
  rw [e]
  refine congrArg _ (funext fun a => Fin.ext ?_)
  fin_cases a
  · show (y 0).val = 0
    have : (y 0).val < 1 := (y 0).isLt
    omega
  · exact h1.symm
  · exact h2.symm

theorem arr_5 : (dat A).arrAt 5 cfg0.N = pFin A := by
  refine (dat A).arrAt_eq_of_covers 5 _ (by decide +kernel) fun t _ y => ?_
  refine pB_at A t y _ ?_ ?_ ?_
  · have : (y 0).val < 1 := (y 0).isLt
    blk_simp [index_5]
  · blk_simp [index_5]
  · blk_simp [index_5]

theorem arr_6 : (dat A).arrAt 6 cfg0.N = tFin A := by
  refine (dat A).arrAt_eq_of_after_last 6 ⟨24, by rw [N25]; decide⟩ (by decide +kernel) _ fun j => ?_
  rfl

/-! ## The region as a segment of the program -/

abbrev adm : (p : Fin 1) → (pcfgs (F := F) p).Adm := fun p => (cfgs p).toPCfg_adm

/-- The proof data, pipeline by pipeline (there is one). -/
def pdats (B : ∀ c : Dev nD, Arrs F c) : (p : Fin 1) → (c : Dev nD) → Dat τ (Elt F) (HIx 1) ℕ UU ℕ (Pipeline.pin (pcfgs (F := F)) adm p) c
  | 0 => fun c => dat (B c)

/-- What the core owes the cores of its chip, with only level-zero waits recorded. -/
def owe0 (c : Dev nD) : sProp 𝕄 :=
  iprop(∃ W, ⌜(K (F := F)).WBelow (c : Thread nD τ) W 0⌝ ∗ owes (c : Thread nD τ) ((K (F := F)).Otc c 0) W)

theorem owesAt_intro (t : Fin (cfg0.N + 1)) : (owe0 (F := F) c : sProp 𝕄) ⊢ (dat A).owesAt none t := by
  unfold owe0 Dat.owesAt Pipeline.owesWithin Dat.bound
  iintro ⟨%W, %hW, HO⟩
  iexists W; isplitr
  · ipureintro; exact fun p hp => Or.inl (hW p hp)
  iexact HO

theorem owesAt_elim (t : Fin (cfg0.N + 1)) : ((dat A).owesAt none t : sProp 𝕄) ⊢ owe0 (F := F) c := by
  unfold owe0 Dat.owesAt Pipeline.owesWithin Dat.bound
  iintro ⟨%W, %hW, HO⟩
  iexists W; isplitr
  · ipureintro
    intro p hp
    rcases hW hp with h | h
    · exact h
    · obtain ⟨w, s, rfl⟩ := h
      exact le_rfl
  iexact HO

theorem otc_none (g : GSem nD τ sig) : (K (F := F)).Otc c 0 g none = 0 := by
  by_contra h
  have h1 := (K (F := F)).lev_of_Otc_pos (Nat.pos_of_ne_zero h)
  exact absurd h1 (by show ¬ (8 * _ + 1 ≤ 0); omega)

/-- The region: entered with the seven arrays at `B`, left with them as the body makes them. -/
def region (B : ∀ c : Dev nD, Arrs F c) :
    Pipeline.RegionSeg (pcfgs (F := F)) adm (pdats B) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_obligation (B c)).loose
  hwaits c := Pipeline.cellsWaits_intro _ _ _ _ _ fun _ _ _ => (K (F := F)).mayWait_none _ (otc_none (c := c))
  pre c := iprop(owe0 (F := F) c ∗ (dat (B c)).arrays ((dat (B c)).arrAt · 0))
  post c := iprop(owe0 (F := F) c ∗ (dat (B c)).arrays ((dat (B c)).arrAt · cfg0.N))
  X _ := iprop(emp)
  Y _ := iprop(emp)
  Z _ := iprop(emp)
  hentry c := by
    rw [Pipeline.ownSems0_none]
    iintro ⟨⟨HO, HA⟩, -, -⟩
    imodintro
    isplitl [HA]; · iexact HA
    isplitr; · iempintro
    isplitl [HO]; · iapply (owesAt_intro (B c) 0); iexact HO
    isplitr <;> iempintro
  hin c := by
    iintro ⟨-, -, -⟩
    iempintro
  hout c := by
    rw [Pipeline.ownSems0_none]
    iintro -
    isplitr; · iempintro
    isplitr; · iempintro
    rw [show (Pipeline.scopedRest (Ix := HIx 1) (Name := ℕ) (U := UU) (Lvl := ℕ) (Val := Elt F) (Pipeline.pin (pcfgs (F := F)) adm 0).spec c : sProp 𝕄) = BI.emp from scopedRest0_eq c]
    iempintro
  hexit c := by
    iintro ⟨HA, HO, -, -⟩
    imodintro
    isplitl [HO]; · iapply (owesAt_elim (B c) _); iexact HO
    iexact HA

end Cert.Proof.Pool
-- ==== Proof.Loop.lean ====
/-
  The tile's two accumulating loops: over the twenty-five blocks, thirty-two vectors carried in registers, each one
  chunk of the fetched partial sums added per trip. The fetched rows stay as they are.
-/
module

public import proofs.«01_k».proof.Proof.Rows

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid1.Coords)

/-- What a loop carries: thirty-two vectors of sixteen lanes. -/
abbrev Carry (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The first loop's invariant: before trip `k` the carry is the first `k` blocks' sums. -/
def loopInv1 (f : Buf (Elt F) ((VT d L).loc cc1_scratch0)) (k : ℕ) (a : Carry F) : sProp 𝕄 :=
  iprop(⌜a = accs (sA.view.read (Elt F) f) k⌝ ∗ (sA.view.loc (VT d L) ↦{fullShare} f))

/-- The first loop's region adds one block to every accumulator and leaves the fetched rows. -/
theorem trip1 (f : Buf (Elt F) ((VT d L).loc cc1_scratch0)) (v102 v103 v104 v105 v106 v107 v108 v109 v110 v111 v112 v113 v114 v115 : FVec F S16 .f32)
    (k : Fin k1_t1_loop.trips) (a : Carry F) :
    loopInv1 d L f k a
      ⊢ wp frame (wpE (defs₀ (F := F)) 𝒱₀ (VT d L) none) Set.univ
          (k1_t1_body L pV (Memref.isWhole_whole _) tV (Memref.isWhole_whole _) oV (Memref.isWhole_whole _) sA (Memref.isWhole_whole _)
            sB (Memref.isWhole_whole _) sT (Memref.isWhole_whole _) sR (Memref.isWhole_whole _) cc1_scratch4 cc1_scratch5 cc1_scoped0 cc1_scoped1
            v102 v103 v104 v105 v106 v107 v108 v109 v110 v111 v112 v113 v114 v115 k a)
          fun r => loopInv1 d L f (k + 1) r := by
  unfold loopInv1
  iintro ⟨%ha, H⟩
  subst ha
  unfold accs k1_t1_body
  rw [k1_part1_eq_skeleton, k1_part2_eq_skeleton, k1_part3_eq_skeleton]
  sl_exec
  sl_step
  isplitr
  · ipureintro
    have hk : k.val < 25 := Nat.lt_of_lt_of_le k.isLt k1_t1_abs.2.1
    have st := fun (c : ℕ) {off : Fin 3 → ℕ} (hoff : off = ![k.val, 0, 16 * c]) (hc : c < 32)
        (inb : ∀ a, off a + S1x1x16.size a ≤ S25x1x512.size a) =>
      congrArg (addf (acc (sA.view.read (Elt F) f) c k)) (chunk_load sA.view k.val c hoff hk hc inb f shapeCasts_S1x1x16_S16)
    exact Prod.ext (st 0 (k1_off4_eq k) (by decide) (k1_off4_inb k)) (
      Prod.ext (st 1 (k1_off5_eq k) (by decide) (k1_off5_inb k)) (
      Prod.ext (st 2 (k1_off6_eq k) (by decide) (k1_off6_inb k)) (
      Prod.ext (st 3 (k1_off7_eq k) (by decide) (k1_off7_inb k)) (
      Prod.ext (st 4 (k1_off8_eq k) (by decide) (k1_off8_inb k)) (
      Prod.ext (st 5 (k1_off9_eq k) (by decide) (k1_off9_inb k)) (
      Prod.ext (st 6 (k1_off10_eq k) (by decide) (k1_off10_inb k)) (
      Prod.ext (st 7 (k1_off11_eq k) (by decide) (k1_off11_inb k)) (
      Prod.ext (st 8 (k1_off12_eq k) (by decide) (k1_off12_inb k)) (
      Prod.ext (st 9 (k1_off13_eq k) (by decide) (k1_off13_inb k)) (
      Prod.ext (st 10 (k1_off14_eq k) (by decide) (k1_off14_inb k)) (
      Prod.ext (st 11 (k1_off15_eq k) (by decide) (k1_off15_inb k)) (
      Prod.ext (st 12 (k1_off16_eq k) (by decide) (k1_off16_inb k)) (
      Prod.ext (st 13 (k1_off17_eq k) (by decide) (k1_off17_inb k)) (
      Prod.ext (st 14 (k1_off18_eq k) (by decide) (k1_off18_inb k)) (
      Prod.ext (st 15 (k1_off19_eq k) (by decide) (k1_off19_inb k)) (
      Prod.ext (st 16 (k1_off20_eq k) (by decide) (k1_off20_inb k)) (
      Prod.ext (st 17 (k1_off21_eq k) (by decide) (k1_off21_inb k)) (
      Prod.ext (st 18 (k1_off22_eq k) (by decide) (k1_off22_inb k)) (
      Prod.ext (st 19 (k1_off23_eq k) (by decide) (k1_off23_inb k)) (
      Prod.ext (st 20 (k1_off24_eq k) (by decide) (k1_off24_inb k)) (
      Prod.ext (st 21 (k1_off25_eq k) (by decide) (k1_off25_inb k)) (
      Prod.ext (st 22 (k1_off26_eq k) (by decide) (k1_off26_inb k)) (
      Prod.ext (st 23 (k1_off27_eq k) (by decide) (k1_off27_inb k)) (
      Prod.ext (st 24 (k1_off28_eq k) (by decide) (k1_off28_inb k)) (
      Prod.ext (st 25 (k1_off29_eq k) (by decide) (k1_off29_inb k)) (
      Prod.ext (st 26 (k1_off30_eq k) (by decide) (k1_off30_inb k)) (
      Prod.ext (st 27 (k1_off31_eq k) (by decide) (k1_off31_inb k)) (
      Prod.ext (st 28 (k1_off32_eq k) (by decide) (k1_off32_inb k)) (
      Prod.ext (st 29 (k1_off33_eq k) (by decide) (k1_off33_inb k)) (
      Prod.ext (st 30 (k1_off34_eq k) (by decide) (k1_off34_inb k)) (
      st 31 (k1_off35_eq k) (by decide) (k1_off35_inb k))))))))))))))))))))))))))))))))
  · iexact H

/-- The second loop's invariant: before trip `k` the carry is the first `k` blocks' sums. -/
def loopInv2 (f : Buf (Elt F) ((VT d L).loc cc1_scratch1)) (k : ℕ) (a : Carry F) : sProp 𝕄 :=
  iprop(⌜a = accs (sB.view.read (Elt F) f) k⌝ ∗ (sB.view.loc (VT d L) ↦{fullShare} f))

/-- The second loop's region adds one block to every accumulator and leaves the fetched rows. -/
theorem trip2 (f : Buf (Elt F) ((VT d L).loc cc1_scratch1)) (v352 v353 v354 v355 v356 v357 v358 v359 v360 v361 v362 v363 v364 v365 v366 v367 v368 v369 v370 v371 v372 v373 v374 v375 v376 v377 v378 v379 v380 v381 v382 : FVec F S16 .f32) (z : F .f32)
    (k : Fin k1_t2_loop.trips) (a : Carry F) :
    loopInv2 d L f k a
      ⊢ wp frame (wpE (defs₀ (F := F)) 𝒱₀ (VT d L) none) Set.univ
          (k1_t2_body L pV (Memref.isWhole_whole _) tV (Memref.isWhole_whole _) oV (Memref.isWhole_whole _) sA (Memref.isWhole_whole _)
            sB (Memref.isWhole_whole _) sT (Memref.isWhole_whole _) sR (Memref.isWhole_whole _) cc1_scratch4 cc1_scratch5 cc1_scoped0 cc1_scoped1
            v352 v353 v354 v355 v356 v357 v358 v359 v360 v361 v362 v363 v364 v365 v366 v367 v368 v369 v370 v371 v372 v373 v374 v375 v376 v377 v378 v379 v380 v381 v382 z k a)
          fun r => loopInv2 d L f (k + 1) r := by
  unfold loopInv2
  iintro ⟨%ha, H⟩
  subst ha
  unfold accs k1_t2_body
  rw [k1_part4_eq_skeleton, k1_part5_eq_skeleton, k1_part6_eq_skeleton]
  sl_exec
  sl_step
  isplitr
  · ipureintro
    have hk : k.val < 25 := Nat.lt_of_lt_of_le k.isLt k1_t2_abs.2.1
    have st := fun (c : ℕ) {off : Fin 3 → ℕ} (hoff : off = ![k.val, 0, 16 * c]) (hc : c < 32)
        (inb : ∀ a, off a + S1x1x16.size a ≤ S25x1x512.size a) =>
      congrArg (addf (acc (sB.view.read (Elt F) f) c k)) (chunk_load sB.view k.val c hoff hk hc inb f shapeCasts_S1x1x16_S16)
    exact Prod.ext (st 0 (k1_off37_eq k) (by decide) (k1_off37_inb k)) (
      Prod.ext (st 1 (k1_off38_eq k) (by decide) (k1_off38_inb k)) (
      Prod.ext (st 2 (k1_off39_eq k) (by decide) (k1_off39_inb k)) (
      Prod.ext (st 3 (k1_off40_eq k) (by decide) (k1_off40_inb k)) (
      Prod.ext (st 4 (k1_off41_eq k) (by decide) (k1_off41_inb k)) (
      Prod.ext (st 5 (k1_off42_eq k) (by decide) (k1_off42_inb k)) (
      Prod.ext (st 6 (k1_off43_eq k) (by decide) (k1_off43_inb k)) (
      Prod.ext (st 7 (k1_off44_eq k) (by decide) (k1_off44_inb k)) (
      Prod.ext (st 8 (k1_off45_eq k) (by decide) (k1_off45_inb k)) (
      Prod.ext (st 9 (k1_off46_eq k) (by decide) (k1_off46_inb k)) (
      Prod.ext (st 10 (k1_off47_eq k) (by decide) (k1_off47_inb k)) (
      Prod.ext (st 11 (k1_off48_eq k) (by decide) (k1_off48_inb k)) (
      Prod.ext (st 12 (k1_off49_eq k) (by decide) (k1_off49_inb k)) (
      Prod.ext (st 13 (k1_off50_eq k) (by decide) (k1_off50_inb k)) (
      Prod.ext (st 14 (k1_off51_eq k) (by decide) (k1_off51_inb k)) (
      Prod.ext (st 15 (k1_off52_eq k) (by decide) (k1_off52_inb k)) (
      Prod.ext (st 16 (k1_off53_eq k) (by decide) (k1_off53_inb k)) (
      Prod.ext (st 17 (k1_off54_eq k) (by decide) (k1_off54_inb k)) (
      Prod.ext (st 18 (k1_off55_eq k) (by decide) (k1_off55_inb k)) (
      Prod.ext (st 19 (k1_off56_eq k) (by decide) (k1_off56_inb k)) (
      Prod.ext (st 20 (k1_off57_eq k) (by decide) (k1_off57_inb k)) (
      Prod.ext (st 21 (k1_off58_eq k) (by decide) (k1_off58_inb k)) (
      Prod.ext (st 22 (k1_off59_eq k) (by decide) (k1_off59_inb k)) (
      Prod.ext (st 23 (k1_off60_eq k) (by decide) (k1_off60_inb k)) (
      Prod.ext (st 24 (k1_off61_eq k) (by decide) (k1_off61_inb k)) (
      Prod.ext (st 25 (k1_off62_eq k) (by decide) (k1_off62_inb k)) (
      Prod.ext (st 26 (k1_off63_eq k) (by decide) (k1_off63_inb k)) (
      Prod.ext (st 27 (k1_off64_eq k) (by decide) (k1_off64_inb k)) (
      Prod.ext (st 28 (k1_off65_eq k) (by decide) (k1_off65_inb k)) (
      Prod.ext (st 29 (k1_off66_eq k) (by decide) (k1_off66_inb k)) (
      Prod.ext (st 30 (k1_off67_eq k) (by decide) (k1_off67_inb k)) (
      st 31 (k1_off68_eq k) (by decide) (k1_off68_inb k))))))))))))))))))))))))))))))))
  · iexact H

end Cert.Proof.Pool
-- ==== Proof.Tile.lean ====
/-
  One tile's whole task, run once at a symbolic tile: it fetches its two segments' rows of the partial sums and of the
  partial denominators, and for each of the two turns the denominators into a factor, accumulates the sums over the
  twenty-five blocks, stores the products and copies the finished row out.
-/
module

public import proofs.«01_k».proof.Proof.Loop

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid1.Coords)

/-! ## The windows of the arrays a tile copies -/

/-- The tile's two rows of partial denominators. -/
abbrev tRow : Memref sig .scVector .hbm S2x128 .f32 := tV.slice (Rect.unit (s := S64x128) (k1_off1 L) S2x128.size (k1_off1_inb L)) (fun _ => rfl)
/-- Its first and its second segment's partial sums. -/
abbrev pRow0 : Memref sig .scVector .hbm S25x1x512 .f32 := pV.slice (Rect.unit (s := S25x64x512) (k1_off2 L) S25x1x512.size (k1_off2_inb L)) (fun _ => rfl)
abbrev pRow1 : Memref sig .scVector .hbm S25x1x512 .f32 := pV.slice (Rect.unit (s := S25x64x512) (k1_off3 L) S25x1x512.size (k1_off3_inb L)) (fun _ => rfl)
/-- Its first and its second segment's row of the result. -/
abbrev oRow0 : Memref sig .scVector .hbm S512 .f32 :=
  (oV.slice (Rect.unit (s := S64x512) (k1_off36 L 0#32) S1x512.size (k1_off36_inb L 0)) (fun _ => rfl)).squeeze S512 squeezes_S1x512_S512
abbrev oRow1 : Memref sig .scVector .hbm S512 .f32 :=
  (oV.slice (Rect.unit (s := S64x512) (k1_off36 L 1#32) S1x512.size (k1_off36_inb L 1)) (fun _ => rfl)).squeeze S512 squeezes_S1x512_S512

abbrev cell4 : GSem nD τ sig := (VT d L, .dma cc1_scratch4.sem)
abbrev cell5 : GSem nD τ sig := (VT d L, .dma cc1_scratch5.sem)
abbrev cellR0 : GSem nD τ sig := (VT d L, .dma cc1_scoped0.sem)
abbrev cellR1 : GSem nD τ sig := (VT d L, .dma cc1_scoped1.sem)

/-- What the two copies of partial sums deliver: the scratch filled with the row, the row back. -/
def deliv (p : Buf (Elt F) (pLoc d)) (a : Buf (Elt F) ((VT d L).loc cc1_scratch0)) (b : Buf (Elt F) ((VT d L).loc cc1_scratch1)) (r : Fin 2) : sProp 𝕄 :=
  match r with
  | 0 => iprop((sA.view.loc (VT d L) ↦[sA.view.set]{fullShare} sA.view.writes (Elt F) a [⟨Rect.whole S25x1x512, ReadAs.same.apply ((pRow0 L).view.read (Elt F) p)⟩])
      ∗ ((pRow0 L).view.loc (VT d L) ↦[(pRow0 L).view.set]{fullShare} p))
  | 1 => iprop((sB.view.loc (VT d L) ↦[sB.view.set]{fullShare} sB.view.writes (Elt F) b [⟨Rect.whole S25x1x512, ReadAs.same.apply ((pRow1 L).view.read (Elt F) p)⟩])
      ∗ ((pRow1 L).view.loc (VT d L) ↦[(pRow1 L).view.set]{fullShare} p))

instance deliv_storable (p : Buf (Elt F) (pLoc d)) (a : Buf (Elt F) ((VT d L).loc cc1_scratch0)) (b : Buf (Elt F) ((VT d L).loc cc1_scratch1)) (r : Fin 2) :
    BI.Storable (upEmb : UEmb _ 𝕄) (deliv d L p a b r) :=
  match r with
  | 0 => by unfold deliv; infer_instance
  | 1 => by unfold deliv; infer_instance

theorem rowInb (c : Fin 32) (b : Fin S512.rank) : (![16 * c.val] : Fin 1 → ℕ) b + S16.size b ≤ S512.size b := by
  have hc := c.isLt
  match b with
  | ⟨0, _⟩ =>
    show 16 * c.val + 16 ≤ 512
    omega

theorem rowMem : ∀ c : Fin 32, c ∈ ([31, 30, 29, 28, 27, 26, 25, 24, 23, 22, 21, 20, 19, 18, 17, 16, 15, 14, 13, 12, 11, 10, 9, 8, 7, 6, 5, 4, 3, 2, 1, 0] : List (Fin 32)) := by decide

/-- The thirty-two stores of a row, the last first: chunk `c` takes its accumulated sums times the factor. -/
def rowPieces (f : S25x1x512.Idx → F .f32) (u : FVec F S16 .f32) : List (View.Piece (Elt F) S512 .f32) :=
  ([31, 30, 29, 28, 27, 26, 25, 24, 23, 22, 21, 20, 19, 18, 17, 16, 15, 14, 13, 12, 11, 10, 9, 8, 7, 6, 5, 4, 3, 2, 1, 0] : List (Fin 32)).map fun c => ⟨Rect.unit (s := S512) ![16 * c.val] S16.size (rowInb c), (shapeCast S16 (mulf (acc f c.val 25) u) shapeCasts_S16_S16 : FVec F S16 .f32)⟩

/-- Stored over any contents they leave the row of products. -/
theorem rowPieces_read (v : View sig .scVector .vmem S512 .f32) (g : v.ty.Contents (Elt F)) (f : S25x1x512.Idx → F .f32) (u : FVec F S16 .f32) :
    v.read (Elt F) (v.writes (Elt F) g (rowPieces f u)) = rowVal f u := by
  funext y
  have hy : (y 0).val < 512 := (y 0).isLt
  refine View.read_writes_apply_of_pieces v g (rowVal f u) (rowPieces f u) ?_ y ?_
  · intro q hq x
    obtain ⟨c, -, rfl⟩ := List.mem_map.mp hq
    have hx : (x 0).val < 16 := (x 0).isLt
    have hc := c.isLt
    have h0 : ((Rect.unit (s := S512) ![16 * c.val] S16.size (rowInb c)).emb x 0).val = 16 * c.val + 1 * (x 0).val := rfl
    refine (shapeCast_apply (mulf (acc f c.val 25) u) shapeCasts_S16_S16 x x rfl).trans ?_
    unfold rowVal
    have e1 : (16 * c.val + 1 * (x 0).val) / 16 = c.val := by omega
    have e2 : (16 * c.val + 1 * (x 0).val) % 16 = (x 0).val := by omega
    simp only [h0, e1]
    refine congrArg (mulf (acc f c.val 25) u) (funext fun b => Fin.ext ?_)
    match b with
    | ⟨0, _⟩ => exact e2.symm
  · refine ⟨_, List.mem_map.mpr ⟨⟨(y 0).val / 16, by omega⟩, rowMem _, rfl⟩, (Rect.mem_set_unit (inb := rowInb _)).mpr ?_⟩
    intro b
    match b with
    | ⟨0, _⟩ =>
      show 16 * ((y 0).val / 16) ≤ (y 0).val ∧ (y 0).val < 16 * ((y 0).val / 16) + 16
      omega

theorem wholeA (f : Buf (Elt F) ((VT d L).loc cc1_scratch0)) :
    ((sA.view.loc (VT d L) ↦[sA.view.set]{fullShare} f : sProp 𝕄)) = (sA.view.loc (VT d L) ↦{fullShare} f) := by
  simp only [Memref.view_whole, View.set_whole]

theorem wholeB (f : Buf (Elt F) ((VT d L).loc cc1_scratch1)) :
    ((sB.view.loc (VT d L) ↦[sB.view.set]{fullShare} f : sProp 𝕄)) = (sB.view.loc (VT d L) ↦{fullShare} f) := by
  simp only [Memref.view_whole, View.set_whole]

set_option maxHeartbeats 2000000 in
/-- One tile's task: its two rows of the result hold the finished rows of its two segments, everything else as before. -/
theorem tile_run (O : CellTallies nD τ sig (HIx 1)) (W : Waits sig (HIx 1))
    (p : Buf (Elt F) (pLoc d)) (t : Buf (Elt F) (tLoc d)) (o : Buf (Elt F) (oLoc d))
    (a : Buf (Elt F) ((VT d L).loc cc1_scratch0)) (b : Buf (Elt F) ((VT d L).loc cc1_scratch1))
    (e : Buf (Elt F) ((VT d L).loc cc1_scratch2)) (g : Buf (Elt F) ((VT d L).loc cc1_scratch3)) :
    (iprop(Transfers.MayWaits (VT d L) (default : HIx 1) O
        ∗ ((pRow0 L).view.loc (VT d L) ↦[(pRow0 L).view.set]{fullShare} p)
        ∗ ((pRow1 L).view.loc (VT d L) ↦[(pRow1 L).view.set]{fullShare} p)
        ∗ ((tRow L).view.loc (VT d L) ↦[(tRow L).view.set]{fullShare} t)
        ∗ ((oRow0 L).view.loc (VT d L) ↦[(oRow0 L).view.set]{fullShare} o)
        ∗ ((oRow1 L).view.loc (VT d L) ↦[(oRow1 L).view.set]{fullShare} o)
        ∗ (sA.view.loc (VT d L) ↦[sA.view.set]{fullShare} a)
        ∗ (sB.view.loc (VT d L) ↦[sB.view.set]{fullShare} b)
        ∗ (sT.view.loc (VT d L) ↦[sT.view.set]{fullShare} e)
        ∗ (sR.view.loc (VT d L) ↦[sR.view.set]{fullShare} g)
        ∗ semVal (cell4 d L) 0 ∗ semVal (cell5 d L) 0 ∗ semVal (cellR0 d L) 0 ∗ semVal (cellR1 d L) 0
        ∗ owes (VT d L) O W) : sProp 𝕄)
      ⊢ wp frame (wpE (defs₀ (F := F)) 𝒱₀ (VT d L) none) Set.univ
          (cc1__sc_body L pV (Memref.isWhole_whole _) tV (Memref.isWhole_whole _) oV (Memref.isWhole_whole _) sA (Memref.isWhole_whole _)
            sB (Memref.isWhole_whole _) sT (Memref.isWhole_whole _) sR (Memref.isWhole_whole _) cc1_scratch4 cc1_scratch5 cc1_scoped0 cc1_scoped1)
          fun _ => iprop(((pRow0 L).view.loc (VT d L) ↦[(pRow0 L).view.set]{fullShare} p)
            ∗ ((pRow1 L).view.loc (VT d L) ↦[(pRow1 L).view.set]{fullShare} p)
            ∗ ((tRow L).view.loc (VT d L) ↦[(tRow L).view.set]{fullShare} t)
            ∗ (∃ o', ⌜(oRow0 L).view.read (Elt F) o' = outRow ((pRow0 L).view.read (Elt F) p) ((tRow L).view.read (Elt F) t) 0⌝
                ∗ ((oRow0 L).view.loc (VT d L) ↦[(oRow0 L).view.set]{fullShare} o'))
            ∗ (∃ o', ⌜(oRow1 L).view.read (Elt F) o' = outRow ((pRow1 L).view.read (Elt F) p) ((tRow L).view.read (Elt F) t) 1⌝
                ∗ ((oRow1 L).view.loc (VT d L) ↦[(oRow1 L).view.set]{fullShare} o'))
            ∗ (∃ f, sA.view.loc (VT d L) ↦[sA.view.set]{fullShare} f)
            ∗ (∃ f, sB.view.loc (VT d L) ↦[sB.view.set]{fullShare} f)
            ∗ (∃ f, sT.view.loc (VT d L) ↦[sT.view.set]{fullShare} f)
            ∗ (∃ f, sR.view.loc (VT d L) ↦[sR.view.set]{fullShare} f)
            ∗ semVal (cell4 d L) 0 ∗ semVal (cell5 d L) 0 ∗ semVal (cellR0 d L) 0 ∗ semVal (cellR1 d L) 0
            ∗ ∃ W', ⌜∀ q ∈ W', q ∈ W ∨ q.2 = none⌝ ∗ owes (VT d L) O W') := by
  rw [cc1__sc_body_eq_skeleton]
  unfold cc1__sc_body_skel
  rw [k1_part7_eq_skeleton, k1_part8_eq_skeleton, k1_part9_eq_skeleton, k1_part10_eq_skeleton, k1_part11_eq_skeleton, k1_part12_eq_skeleton,
    k1_part13_eq_skeleton, k1_part14_eq_skeleton, k1_part15_eq_skeleton, k1_part16_eq_skeleton, k1_part17_eq_skeleton, k1_part18_eq_skeleton,
    k1_part19_eq_skeleton]
  iintro ⟨#Hmw, Hp0, Hp1, Ht, Ho0, Ho1, HA, HB, HT, HR, Hc4, Hc5, Hr0, Hr1, HO⟩
  imod (Transfers.batch_alloc' (Lvl := ℕ) countersEmb (VT d L) (default : HIx 1) (sA.view.amount (SemLoc.dma cc1_scratch4.sem)) (deliv d L p a b)
    (sm := .dma cc1_scratch4.sem) (E := Set.univ)) $$ Hc4 with HB4
  sl_exec
  -- the first loop, over the first segment's rows
  generalize hfa : sA.view.writes (Elt F) sA.view.junk [⟨Rect.whole S25x1x512, ReadAs.same.apply ((pRow0 L).view.read (Elt F) p)⟩] = fa
  ihave HA := Entails.of_eq (wholeA d L fa) $$ HB4_dst0
  sl_for (loopInv1 d L fa) $$ [HA]
  case region =>
    intro k a'
    exact trip1 d L fa _ _ _ _ _ _ _ _ _ _ _ _ _ _ k a'
  · unfold loopInv1
    isplitr
    · ipureintro
      rfl
    · iexact HA
  iintro %r HI
  unfold loopInv1
  icases HI with ⟨%hr, HA⟩
  have hr' : r = accs (sA.view.read (Elt F) fa) 25 := hr
  clear hr
  subst hr'
  set_option sl_exec.stopBefore "k1_part14_skel" in sl_exec
  -- the first row is stored: what the scratch reads from here on
  have hrow0 := rowPieces_read (F := F) sR.view g (sA.view.read (Elt F) fa) (tile_run.sl.r_4 d L t)
  generalize hg1 : sR.view.writes (Elt F) g (rowPieces (sA.view.read (Elt F) fa) (tile_run.sl.r_4 d L t)) = g1 at hrow0
  have hHR : ∀ l, (iprop((sR.view.loc (VT d L) ↦[sR.view.set]{fullShare} sR.view.writes (Elt F) g l)
      ∗ ⌜l = rowPieces (sA.view.read (Elt F) fa) (tile_run.sl.r_4 d L t)⌝) : sProp 𝕄)
      ⊢ (sR.view.loc (VT d L) ↦[sR.view.set]{fullShare} g1) := fun l => by
    iintro ⟨H, %hl⟩
    subst hl
    rw [hg1]
    iexact H
  ihave HR := hHR _ $$ [HR]
  · isplitl [HR]
    · iexact HR
    · ipureintro
      rfl
  sl_exec
  -- the second loop, over the second segment's rows
  generalize hfb : sB.view.writes (Elt F) sB.view.junk [⟨Rect.whole S25x1x512, ReadAs.same.apply ((pRow1 L).view.read (Elt F) p)⟩] = fb
  ihave HB := Entails.of_eq (wholeB d L fb) $$ HB4_dst1
  sl_for (loopInv2 d L fb) $$ [HB]
  case region =>
    intro k a'
    exact trip2 d L fb _ _ _ _ _ _ _ _ _ _ _ _ _ _ _ _ _ _ _ _ _ _ _ _ _ _ _ _ _ _ _ _ k a'
  · unfold loopInv2
    isplitr
    · ipureintro
      rfl
    · iexact HB
  iintro %r HI
  unfold loopInv2
  icases HI with ⟨%hr, HB⟩
  have hr' : r = accs (sB.view.read (Elt F) fb) 25 := hr
  clear hr
  subst hr'
  sl_exec
  sl_step
  -- what the fetched scratch reads, and with it the two factors
  have hT : sT.view.read (Elt F) (sT.view.writes (Elt F) sT.view.junk [⟨Rect.whole S2x128, tile_run.sl.dma0 d L t⟩]) = (tRow L).view.read (Elt F) t :=
    View.read_writes_whole _ _ _
  have hA : sA.view.read (Elt F) fa = (pRow0 L).view.read (Elt F) p := by
    rw [← hfa]
    exact View.read_writes_whole _ _ _
  have hB : sB.view.read (Elt F) fb = (pRow1 L).view.read (Elt F) p := by
    rw [← hfb]
    exact View.read_writes_whole _ _ _
  have hc := fun (r : Fin 2) (c : ℕ) (hc : c < 8) (inb : ∀ b, (![r.val, 16 * c] : Fin 2 → ℕ) b + S1x16.size b ≤ S2x128.size b) =>
    tchunk_load sT.view r c rfl hc inb (sT.view.writes (Elt F) sT.view.junk [⟨Rect.whole S2x128, tile_run.sl.dma0 d L t⟩]) shapeCasts_S1x16_S16
  have hF0 : tile_run.sl.r_4 d L t = factor ((tRow L).view.read (Elt F) t) 0 := by
    rw [← hT]
    exact factor_zero _ _ _ _ _ _ _ _ _ (hc 0 0 (by decide) inb_S2x128_S1x16_0_0) (hc 0 1 (by decide) inb_S2x128_S1x16_0_16)
      (hc 0 2 (by decide) inb_S2x128_S1x16_0_32) (hc 0 3 (by decide) inb_S2x128_S1x16_0_48)
      (hc 0 4 (by decide) inb_S2x128_S1x16_0_64) (hc 0 5 (by decide) inb_S2x128_S1x16_0_80)
      (hc 0 6 (by decide) inb_S2x128_S1x16_0_96) (hc 0 7 (by decide) inb_S2x128_S1x16_0_112)
  have hF1 : tile_run.sl.r_38 d L t = factor ((tRow L).view.read (Elt F) t) 1 := by
    rw [← hT]
    exact factor_one _ _ _ _ _ _ _ _ _ (hc 1 0 (by decide) inb_S2x128_S1x16_1_0) (hc 1 1 (by decide) inb_S2x128_S1x16_1_16)
      (hc 1 2 (by decide) inb_S2x128_S1x16_1_32) (hc 1 3 (by decide) inb_S2x128_S1x16_1_48)
      (hc 1 4 (by decide) inb_S2x128_S1x16_1_64) (hc 1 5 (by decide) inb_S2x128_S1x16_1_80)
      (hc 1 6 (by decide) inb_S2x128_S1x16_1_96) (hc 1 7 (by decide) inb_S2x128_S1x16_1_112)
  have hO0 : tile_run.sl.dma0_1 g1 = outRow ((pRow0 L).view.read (Elt F) p) ((tRow L).view.read (Elt F) t) 0 := by
    rw [hF0, hA] at hrow0
    exact hrow0
  isplitl [HB4_src0]; · iexact HB4_src0
  isplitl [HB4_src1]; · iexact HB4_src1
  isplitl [Ht]; · iexact Ht
  isplitl [Ho0]
  · iexists _
    isplitr; swap; · iexact Ho0
    ipureintro
    exact (View.read_writes_whole _ _ _).trans hO0
  isplitl [Ho1]
  · iexists _
    isplitr; swap; · iexact Ho1
    ipureintro
    refine (View.read_writes_whole _ _ _).trans ?_
    unfold outRow
    rw [← hF1, ← hB]
    exact rowPieces_read sR.view g1 (sB.view.read (Elt F) fb) (tile_run.sl.r_38 d L t)
  isplitl [HA]; · iexists _; iapply Entails.of_eq (wholeA d L fa).symm $$ HA
  isplitl [HB]; · iexists _; iapply Entails.of_eq (wholeB d L fb).symm $$ HB
  isplitl [HT]; · iexists _; iexact HT
  isplitl [HR]; · iexists _; iexact HR
  isplitl [HB4]; · iexact HB4
  isplitl [Hc5]; · iexact Hc5
  isplitl [Hr0]; · iexact Hr0
  isplitl [Hr1]; · iexact Hr1
  iexists _; isplitr; swap; · iexact HO
  ipureintro
  intro q hq
  simp only [Finset.mem_insert] at hq
  rcases hq with rfl | rfl | rfl | rfl | rfl | hq
  · exact .inr rfl
  · exact .inr rfl
  · exact .inr rfl
  · exact .inr rfl
  · exact .inr rfl
  · exact .inl hq

end Cert.Proof.Pool
-- ==== Proof.Pay.lean ====
/-
  What the SparseCore call hands each tile and takes back: by plain sets of indices, the partial sums of the tile's two
  segments, its two rows of partial denominators, its two rows of the result. With these a tile's whole task is a run
  from its share to its share, the two rows of the result finished.
-/
module

public import proofs.«01_k».proof.Proof.Tile

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The sets -/

/-- The partial sums of segment `b`. -/
def pSet (b : ℕ) : Finset S25x64x512.Idx := Finset.univ.filter fun x => (x 1).val = b
/-- The two rows of partial denominators of tile `w`. -/
def tSet (w : ℕ) : Finset S64x128.Idx := Finset.univ.filter fun x => (x 0).val / 2 = w
/-- Row `b` of the result. -/
def oSet (b : ℕ) : Finset S64x512.Idx := Finset.univ.filter fun x => (x 0).val = b

/-- The tile's number among the thirty-two. -/
def wid (L : grid1.Coords) : ℕ := 16 * (L 0).val + (L 1).val

/-- The result: every row finished from its segment's partial sums and denominators. -/
def outV (p : S25x64x512.Idx → F .f32) (t : S64x128.Idx → F .f32) : S64x512.Idx → F .f32 := fun x =>
  outRow (fun y => p (ix3 (y 0) (x 0) (y 2)))
    (fun y => t (ix2 ⟨(2 * ((x 0).val / 2) + (y 0).val) % 64, Nat.mod_lt _ (by decide)⟩ (y 1))) ⟨(x 0).val % 2, Nat.mod_lt _ (by decide)⟩ (ix1 (x 1))

variable (d : Dev nD) (L : grid1.Coords)

theorem wid_lt : wid L < 32 := by
  have h0 : (L 0).val < 2 := (L 0).isLt
  have h1 : (L 1).val < 16 := (L 1).isLt
  unfold wid
  omega

theorem set_pRow0 : (pRow0 L).view.set = pSet (2 * wid L) := by
  show ((View.whole main_v3_0_scv).slice (Rect.unit (s := S25x64x512) (k1_off2 L) S25x1x512.size (k1_off2_inb L))).set = _
  rw [View.set_slice_whole]
  ext x
  have hx0 : (x 0).val < 25 := (x 0).isLt
  have hx2 : (x 2).val < 512 := (x 2).isLt
  refine Rect.mem_set_unit.trans (Iff.trans ?_ (Finset.mem_filter.trans (and_iff_right (Finset.mem_univ _))).symm)
  rw [k1_off2_eq]
  constructor
  · intro h
    have h1 : 32 * (L 0).val + 2 * (L 1).val ≤ (x 1).val ∧ (x 1).val < 32 * (L 0).val + 2 * (L 1).val + 1 := h 1
    unfold wid
    omega
  · intro h a
    unfold wid at h
    match a with
    | ⟨0, _⟩ => exact ⟨Nat.zero_le _, by show (x 0).val < 0 + 25; omega⟩
    | ⟨1, _⟩ => show 32 * (L 0).val + 2 * (L 1).val ≤ (x 1).val ∧ (x 1).val < 32 * (L 0).val + 2 * (L 1).val + 1; omega
    | ⟨2, _⟩ => exact ⟨Nat.zero_le _, by show (x 2).val < 0 + 512; omega⟩

theorem set_pRow1 : (pRow1 L).view.set = pSet (2 * wid L + 1) := by
  show ((View.whole main_v3_0_scv).slice (Rect.unit (s := S25x64x512) (k1_off3 L) S25x1x512.size (k1_off3_inb L))).set = _
  rw [View.set_slice_whole]
  ext x
  have hx0 : (x 0).val < 25 := (x 0).isLt
  have hx2 : (x 2).val < 512 := (x 2).isLt
  refine Rect.mem_set_unit.trans (Iff.trans ?_ (Finset.mem_filter.trans (and_iff_right (Finset.mem_univ _))).symm)
  rw [k1_off3_eq]
  constructor
  · intro h
    have h1 : 32 * (L 0).val + 2 * (L 1).val + 1 ≤ (x 1).val ∧ (x 1).val < 32 * (L 0).val + 2 * (L 1).val + 1 + 1 := h 1
    unfold wid
    omega
  · intro h a
    unfold wid at h
    match a with
    | ⟨0, _⟩ => exact ⟨Nat.zero_le _, by show (x 0).val < 0 + 25; omega⟩
    | ⟨1, _⟩ => show 32 * (L 0).val + 2 * (L 1).val + 1 ≤ (x 1).val ∧ (x 1).val < 32 * (L 0).val + 2 * (L 1).val + 1 + 1; omega
    | ⟨2, _⟩ => exact ⟨Nat.zero_le _, by show (x 2).val < 0 + 512; omega⟩

theorem set_tRow : (tRow L).view.set = tSet (wid L) := by
  show ((View.whole main_v3_1_scv).slice (Rect.unit (s := S64x128) (k1_off1 L) S2x128.size (k1_off1_inb L))).set = _
  rw [View.set_slice_whole]
  ext x
  have hx1 : (x 1).val < 128 := (x 1).isLt
  refine Rect.mem_set_unit.trans (Iff.trans ?_ (Finset.mem_filter.trans (and_iff_right (Finset.mem_univ _))).symm)
  rw [k1_off1_eq]
  constructor
  · intro h
    have h0 : 32 * (L 0).val + 2 * (L 1).val ≤ (x 0).val ∧ (x 0).val < 32 * (L 0).val + 2 * (L 1).val + 2 := h 0
    unfold wid
    omega
  · intro h a
    unfold wid at h
    match a with
    | ⟨0, _⟩ => show 32 * (L 0).val + 2 * (L 1).val ≤ (x 0).val ∧ (x 0).val < 32 * (L 0).val + 2 * (L 1).val + 2; omega
    | ⟨1, _⟩ => exact ⟨Nat.zero_le _, by show (x 1).val < 0 + 128; omega⟩

/-- Where a result row begins, at the tile's row `r`. -/
theorem off36 (r : Fin 2) : k1_off36 L (BitVec.ofNat 32 r.val) = ![2 * wid L + r.val, 0] := by
  rw [k1_off36_eq]
  funext a
  match a with
  | ⟨0, _⟩ => show 32 * (L 0).val + 2 * (L 1).val + r.val = 2 * wid L + r.val; unfold wid; omega
  | ⟨1, _⟩ => rfl

theorem set_oRow0 : (oRow0 L).view.set = oSet (2 * wid L) := by
  show (((View.whole main_v4_scv).slice (Rect.unit (s := S64x512) (k1_off36 L 0#32) S1x512.size (k1_off36_inb L 0))).reshape S512 squeezes_S1x512_S512.numel_eq).set = _
  rw [View.set_reshape, View.set_slice_whole]
  ext x
  have hx1 : (x 1).val < 512 := (x 1).isLt
  refine Rect.mem_set_unit.trans (Iff.trans ?_ (Finset.mem_filter.trans (and_iff_right (Finset.mem_univ _))).symm)
  rw [show k1_off36 L 0#32 = ![2 * wid L + 0, 0] from off36 L 0]
  constructor
  · intro h
    have h0 : 2 * wid L + 0 ≤ (x 0).val ∧ (x 0).val < 2 * wid L + 0 + 1 := h 0
    omega
  · intro h a
    match a with
    | ⟨0, _⟩ => show 2 * wid L + 0 ≤ (x 0).val ∧ (x 0).val < 2 * wid L + 0 + 1; omega
    | ⟨1, _⟩ => exact ⟨Nat.zero_le _, by show (x 1).val < 0 + 512; omega⟩

theorem set_oRow1 : (oRow1 L).view.set = oSet (2 * wid L + 1) := by
  show (((View.whole main_v4_scv).slice (Rect.unit (s := S64x512) (k1_off36 L 1#32) S1x512.size (k1_off36_inb L 1))).reshape S512 squeezes_S1x512_S512.numel_eq).set = _
  rw [View.set_reshape, View.set_slice_whole]
  ext x
  have hx1 : (x 1).val < 512 := (x 1).isLt
  refine Rect.mem_set_unit.trans (Iff.trans ?_ (Finset.mem_filter.trans (and_iff_right (Finset.mem_univ _))).symm)
  rw [show k1_off36 L 1#32 = ![2 * wid L + 1, 0] from off36 L 1]
  constructor
  · intro h
    have h0 : 2 * wid L + 1 ≤ (x 0).val ∧ (x 0).val < 2 * wid L + 1 + 1 := h 0
    omega
  · intro h a
    match a with
    | ⟨0, _⟩ => show 2 * wid L + 1 ≤ (x 0).val ∧ (x 0).val < 2 * wid L + 1 + 1; omega
    | ⟨1, _⟩ => exact ⟨Nat.zero_le _, by show (x 1).val < 0 + 512; omega⟩

/-! ## What the windows read -/

/-- The fetched windows, read from the whole arrays. -/
theorem read_pRow0 (p : S25x64x512.Idx → F .f32) (y : S25x1x512.Idx) (b : Fin 64) (hb : b.val = 2 * wid L) :
    (pRow0 L).view.read (Elt F) p y = p (ix3 (y 0) b (y 2)) := by
  refine (View.read_apply _ _).trans ((cast_eq _ _).trans (congrArg p (funext fun a => Fin.ext ?_)))
  have hy1 : (y 1).val < 1 := (y 1).isLt
  have e (a : Fin 3) : ((pRow0 L).view.emb y a).val = k1_off2 L a + 1 * (y a).val := rfl
  refine (e a).trans ?_
  rw [k1_off2_eq]
  unfold wid at hb
  match a with
  | ⟨0, _⟩ => show 0 + 1 * (y 0).val = (y 0).val; omega
  | ⟨1, _⟩ => show 32 * (L 0).val + 2 * (L 1).val + 1 * (y 1).val = b.val; omega
  | ⟨2, _⟩ => show 0 + 1 * (y 2).val = (y 2).val; omega

theorem read_pRow1 (p : S25x64x512.Idx → F .f32) (y : S25x1x512.Idx) (b : Fin 64) (hb : b.val = 2 * wid L + 1) :
    (pRow1 L).view.read (Elt F) p y = p (ix3 (y 0) b (y 2)) := by
  refine (View.read_apply _ _).trans ((cast_eq _ _).trans (congrArg p (funext fun a => Fin.ext ?_)))
  have hy1 : (y 1).val < 1 := (y 1).isLt
  have e (a : Fin 3) : ((pRow1 L).view.emb y a).val = k1_off3 L a + 1 * (y a).val := rfl
  refine (e a).trans ?_
  rw [k1_off3_eq]
  unfold wid at hb
  match a with
  | ⟨0, _⟩ => show 0 + 1 * (y 0).val = (y 0).val; omega
  | ⟨1, _⟩ => show 32 * (L 0).val + 2 * (L 1).val + 1 + 1 * (y 1).val = b.val; omega
  | ⟨2, _⟩ => show 0 + 1 * (y 2).val = (y 2).val; omega

theorem read_tRow (t : S64x128.Idx → F .f32) (y : S2x128.Idx) :
    (tRow L).view.read (Elt F) t y = t (ix2 ⟨(2 * wid L + (y 0).val) % 64, Nat.mod_lt _ (by decide)⟩ (y 1)) := by
  refine (View.read_apply _ _).trans ((cast_eq _ _).trans (congrArg t (funext fun a => Fin.ext ?_)))
  have hy0 : (y 0).val < 2 := (y 0).isLt
  have hw := wid_lt L
  have e (a : Fin 2) : ((tRow L).view.emb y a).val = k1_off1 L a + 1 * (y a).val := rfl
  refine (e a).trans ?_
  rw [k1_off1_eq]
  unfold wid at hw ⊢
  match a with
  | ⟨0, _⟩ => show 32 * (L 0).val + 2 * (L 1).val + 1 * (y 0).val = (2 * (16 * (L 0).val + (L 1).val) + (y 0).val) % 64; omega
  | ⟨1, _⟩ => show 0 + 1 * (y 1).val = (y 1).val; omega

/-- Where lane `j` of a result row lies in the result. -/
theorem emb_oRow0 (j : S512.Idx) (b : Fin 64) (hb : b.val = 2 * wid L) : (oRow0 L).view.emb j = ix2 b (j 0) := by
  have hr : Shape.reshapeEquiv squeezes_S1x512_S512.numel_eq j = ix2 (0 : Fin 1) (j 0) :=
    Shape.reshapeEquiv_eq_of_rowMajor _ ((Shape.rowMajor_val_two (d := ![1, 512]) (ix2 (0 : Fin 1) (j 0))).trans
      (Eq.trans (show 0 * 512 + (j 0).val = (j 0).val by omega) (Shape.rowMajor_val_one (d := ![512]) j).symm))
  have k := off36 L 0
  refine (congrArg ((View.whole main_v4_scv).slice (Rect.unit (s := S64x512) (k1_off36 L 0#32) S1x512.size (k1_off36_inb L 0))).emb hr).trans (funext fun a => Fin.ext ?_)
  match a with
  | ⟨0, _⟩ =>
    have k0 : k1_off36 L 0#32 0 = 2 * wid L + 0 := congrFun k 0
    show k1_off36 L 0#32 0 + 1 * 0 = b.val
    omega
  | ⟨1, _⟩ =>
    have k0 : k1_off36 L 0#32 1 = 0 := congrFun k 1
    show k1_off36 L 0#32 1 + 1 * (j 0).val = (j 0).val
    omega

theorem emb_oRow1 (j : S512.Idx) (b : Fin 64) (hb : b.val = 2 * wid L + 1) : (oRow1 L).view.emb j = ix2 b (j 0) := by
  have hr : Shape.reshapeEquiv squeezes_S1x512_S512.numel_eq j = ix2 (0 : Fin 1) (j 0) :=
    Shape.reshapeEquiv_eq_of_rowMajor _ ((Shape.rowMajor_val_two (d := ![1, 512]) (ix2 (0 : Fin 1) (j 0))).trans
      (Eq.trans (show 0 * 512 + (j 0).val = (j 0).val by omega) (Shape.rowMajor_val_one (d := ![512]) j).symm))
  have k := off36 L 1
  refine (congrArg ((View.whole main_v4_scv).slice (Rect.unit (s := S64x512) (k1_off36 L 1#32) S1x512.size (k1_off36_inb L 1))).emb hr).trans (funext fun a => Fin.ext ?_)
  match a with
  | ⟨0, _⟩ =>
    have k0 : k1_off36 L 1#32 0 = 2 * wid L + 1 := congrFun k 0
    show k1_off36 L 1#32 0 + 1 * 0 = b.val
    omega
  | ⟨1, _⟩ =>
    have k0 : k1_off36 L 1#32 1 = 0 := congrFun k 1
    show k1_off36 L 1#32 1 + 1 * (j 0).val = (j 0).val
    omega

theorem eta1 (j : S512.Idx) : ix1 (j 0) = j := funext fun | ⟨0, _⟩ => rfl

/-- The first finished row is the result's row of the tile's first segment. -/
theorem outRow0_eq (p : S25x64x512.Idx → F .f32) (t : S64x128.Idx → F .f32) (j : S512.Idx) (b : Fin 64) (hb : b.val = 2 * wid L) :
    outRow ((pRow0 L).view.read (Elt F) p) ((tRow L).view.read (Elt F) t) 0 j = outV p t (ix2 b (j 0)) := by
  have hq : 2 * (b.val / 2) = 2 * wid L := by omega
  have hm : b.val % 2 = 0 := by omega
  show _ = outRow (fun y => p (ix3 (y 0) b (y 2)))
    (fun y => t (ix2 ⟨(2 * (b.val / 2) + (y 0).val) % 64, Nat.mod_lt _ (by decide)⟩ (y 1))) ⟨b.val % 2, Nat.mod_lt _ (by decide)⟩ (ix1 (j 0))
  have h1 : (pRow0 L).view.read (Elt F) p = fun y : S25x1x512.Idx => p (ix3 (y 0) b (y 2)) := funext fun y => read_pRow0 L p y b hb
  have h2 : (tRow L).view.read (Elt F) t = fun y : S2x128.Idx => t (ix2 ⟨(2 * (b.val / 2) + (y 0).val) % 64, Nat.mod_lt _ (by decide)⟩ (y 1)) :=
    funext fun y => (read_tRow L t y).trans (congrArg (fun r => t (ix2 r (y 1))) (Fin.ext (by
      show (2 * wid L + (y 0).val) % 64 = (2 * (b.val / 2) + (y 0).val) % 64
      rw [hq])))
  have h3 : (0 : Fin 2) = ⟨b.val % 2, Nat.mod_lt _ (by decide)⟩ := Fin.ext hm.symm
  exact (congrFun (congr (congr (congrArg outRow h1) h2) h3) j).trans (congrArg _ (eta1 j).symm)

/-- The second finished row is the result's row of the tile's second segment. -/
theorem outRow1_eq (p : S25x64x512.Idx → F .f32) (t : S64x128.Idx → F .f32) (j : S512.Idx) (b : Fin 64) (hb : b.val = 2 * wid L + 1) :
    outRow ((pRow1 L).view.read (Elt F) p) ((tRow L).view.read (Elt F) t) 1 j = outV p t (ix2 b (j 0)) := by
  have hq : 2 * (b.val / 2) = 2 * wid L := by omega
  have hm : b.val % 2 = 1 := by omega
  show _ = outRow (fun y => p (ix3 (y 0) b (y 2)))
    (fun y => t (ix2 ⟨(2 * (b.val / 2) + (y 0).val) % 64, Nat.mod_lt _ (by decide)⟩ (y 1))) ⟨b.val % 2, Nat.mod_lt _ (by decide)⟩ (ix1 (j 0))
  have h1 : (pRow1 L).view.read (Elt F) p = fun y : S25x1x512.Idx => p (ix3 (y 0) b (y 2)) := funext fun y => read_pRow1 L p y b hb
  have h2 : (tRow L).view.read (Elt F) t = fun y : S2x128.Idx => t (ix2 ⟨(2 * (b.val / 2) + (y 0).val) % 64, Nat.mod_lt _ (by decide)⟩ (y 1)) :=
    funext fun y => (read_tRow L t y).trans (congrArg (fun r => t (ix2 r (y 1))) (Fin.ext (by
      show (2 * wid L + (y 0).val) % 64 = (2 * (b.val / 2) + (y 0).val) % 64
      rw [hq])))
  have h3 : (1 : Fin 2) = ⟨b.val % 2, Nat.mod_lt _ (by decide)⟩ := Fin.ext hm.symm
  exact (congrFun (congr (congr (congrArg outRow h1) h2) h3) j).trans (congrArg _ (eta1 j).symm)

/-! ## The windows as the plain sets -/

theorem pts_pRow0 (f : Buf (Elt F) (pLoc d)) :
    ((pRow0 L).view.loc (VT d L) ↦[(pRow0 L).view.set]{fullShare} f : sProp 𝕄) = pLoc d ↦[pSet (2 * wid L)]{fullShare} f := by
  rw [set_pRow0]
theorem pts_pRow1 (f : Buf (Elt F) (pLoc d)) :
    ((pRow1 L).view.loc (VT d L) ↦[(pRow1 L).view.set]{fullShare} f : sProp 𝕄) = pLoc d ↦[pSet (2 * wid L + 1)]{fullShare} f := by
  rw [set_pRow1]
theorem pts_tRow (f : Buf (Elt F) (tLoc d)) :
    ((tRow L).view.loc (VT d L) ↦[(tRow L).view.set]{fullShare} f : sProp 𝕄) = tLoc d ↦[tSet (wid L)]{fullShare} f := by
  rw [set_tRow]
theorem pts_oRow0 (f : Buf (Elt F) (oLoc d)) :
    ((oRow0 L).view.loc (VT d L) ↦[(oRow0 L).view.set]{fullShare} f : sProp 𝕄) = oLoc d ↦[oSet (2 * wid L)]{fullShare} f := by
  rw [set_oRow0]
theorem pts_oRow1 (f : Buf (Elt F) (oLoc d)) :
    ((oRow1 L).view.loc (VT d L) ↦[(oRow1 L).view.set]{fullShare} f : sProp 𝕄) = oLoc d ↦[oSet (2 * wid L + 1)]{fullShare} f := by
  rw [set_oRow1]

/-- Two contents equal at every place of a view are equal on its elements. -/
theorem eq_of_emb {s : Shape} {e : EltTy} {sp : Space} (v : View sig .scVector sp s e) {α : Type} {f g : v.ty.Idx → α}
    (h : ∀ j, f (v.emb j) = g (v.emb j)) (i : v.ty.Idx) (hi : i ∈ v.set) : f i = g i := by
  obtain ⟨j, -, rfl⟩ := Finset.mem_map.mp hi
  exact h j

/-- A result row that reads the finished row is the whole result there. -/
theorem done_oRow0 (p : Buf (Elt F) (pLoc d)) (t : Buf (Elt F) (tLoc d)) (o : Buf (Elt F) (oLoc d))
    (h : (oRow0 L).view.read (Elt F) o = outRow ((pRow0 L).view.read (Elt F) p) ((tRow L).view.read (Elt F) t) 0) :
    ((oRow0 L).view.loc (VT d L) ↦[(oRow0 L).view.set]{fullShare} o : sProp 𝕄) = oLoc d ↦[oSet (2 * wid L)]{fullShare} outV p t := by
  have hw := wid_lt L
  refine (pointsTo_congr (eq_of_emb (oRow0 L).view fun j => ?_)).trans (pts_oRow0 d L (outV p t))
  have h1 := (congrFun h j).trans (outRow0_eq L p t j ⟨2 * wid L, by omega⟩ rfl)
  have h2 : (oRow0 L).view.read (Elt F) o j = o ((oRow0 L).view.emb j) := (View.read_apply _ _).trans (cast_eq _ _)
  exact (h2.symm.trans h1).trans (congrArg (outV p t) (emb_oRow0 L j ⟨2 * wid L, by omega⟩ rfl).symm)
theorem done_oRow1 (p : Buf (Elt F) (pLoc d)) (t : Buf (Elt F) (tLoc d)) (o : Buf (Elt F) (oLoc d))
    (h : (oRow1 L).view.read (Elt F) o = outRow ((pRow1 L).view.read (Elt F) p) ((tRow L).view.read (Elt F) t) 1) :
    ((oRow1 L).view.loc (VT d L) ↦[(oRow1 L).view.set]{fullShare} o : sProp 𝕄) = oLoc d ↦[oSet (2 * wid L + 1)]{fullShare} outV p t := by
  have hw := wid_lt L
  refine (pointsTo_congr (eq_of_emb (oRow1 L).view fun j => ?_)).trans (pts_oRow1 d L (outV p t))
  have h1 := (congrFun h j).trans (outRow1_eq L p t j ⟨2 * wid L + 1, by omega⟩ rfl)
  have h2 : (oRow1 L).view.read (Elt F) o j = o ((oRow1 L).view.emb j) := (View.read_apply _ _).trans (cast_eq _ _)
  exact (h2.symm.trans h1).trans (congrArg (outV p t) (emb_oRow1 L j ⟨2 * wid L + 1, by omega⟩ rfl).symm)

/-! ## A tile's share, and its task from share to share -/

/-- What tile `w` takes: its segments' partial sums, its denominators, its rows of the result at `o`. -/
def share (p : Buf (Elt F) (pLoc d)) (t : Buf (Elt F) (tLoc d)) (o : Buf (Elt F) (oLoc d)) (w : ℕ) : sProp 𝕄 :=
  iprop((pLoc d ↦[pSet (2 * w)]{fullShare} p) ∗ (pLoc d ↦[pSet (2 * w + 1)]{fullShare} p) ∗ (tLoc d ↦[tSet w]{fullShare} t)
    ∗ (oLoc d ↦[oSet (2 * w)]{fullShare} o) ∗ (oLoc d ↦[oSet (2 * w + 1)]{fullShare} o))

instance share_storable (p : Buf (Elt F) (pLoc d)) (t : Buf (Elt F) (tLoc d)) (o : Buf (Elt F) (oLoc d)) (w : ℕ) :
    BI.Storable (upEmb : UEmb _ 𝕄) (share d p t o w) := by
  unfold share; infer_instance

/-- The tile's four semaphores are among its own. -/
theorem ownSems0_V :
    (ownSems0 (VT d L) : sProp 𝕄)
      = iprop(semVal (cell4 d L) 0 ∗ semVal (cell5 d L) 0 ∗ semVal (cellR0 d L) 0 ∗ semVal (cellR1 d L) 0
          ∗ bigSep (((((ownCells (VT d L)).erase (cell4 d L)).erase (cell5 d L)).erase (cellR0 d L)).erase (cellR1 d L)) fun g => semVal g 0) := by
  have m4 : cell4 d L ∈ ownCells (VT d L) := mem_ownCells.mpr ⟨rfl, by
    show (SemLoc.dma cc1_scratch4.sem : SemLoc sig).isScoped .scVector = true; decide⟩
  have m5 : cell5 d L ∈ ownCells (VT d L) := mem_ownCells.mpr ⟨rfl, by
    show (SemLoc.dma cc1_scratch5.sem : SemLoc sig).isScoped .scVector = true; decide⟩
  have mr0 : cellR0 d L ∈ ownCells (VT d L) := mem_ownCells.mpr ⟨rfl, by
    show (SemLoc.dma cc1_scoped0.sem : SemLoc sig).isScoped .scVector = true; decide⟩
  have mr1 : cellR1 d L ∈ ownCells (VT d L) := mem_ownCells.mpr ⟨rfl, by
    show (SemLoc.dma cc1_scoped1.sem : SemLoc sig).isScoped .scVector = true; decide⟩
  have ne {a b : DmaSem sig} (h : a ≠ b) : ((VT d L, .dma a) : GSem nD τ sig) ≠ (VT d L, .dma b) := fun e =>
    h (SemLoc.dma.inj (Prod.ext_iff.mp e).2)
  unfold SparseCore.Cfg.ownSems0
  rw [SparseCore.bigSep_erase' m4,
    SparseCore.bigSep_erase' (Finset.mem_erase.mpr ⟨ne (by decide), m5⟩),
    SparseCore.bigSep_erase' (Finset.mem_erase.mpr ⟨ne (by decide), Finset.mem_erase.mpr ⟨ne (by decide), mr0⟩⟩),
    SparseCore.bigSep_erase' (Finset.mem_erase.mpr ⟨ne (by decide), Finset.mem_erase.mpr ⟨ne (by decide), Finset.mem_erase.mpr ⟨ne (by decide), mr1⟩⟩⟩)]

/-- The tile's four scratch buffers are among its own. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have mem (b : Ref sig .scVector) (h : ((Proc.scVector (cV L) (jV L)).devRef b : DevRef τ sig).owner = .proc (Proc.scVector (cV L) (jV L))) :
      (Proc.scVector (cV L) (jV L)).devRef b ∈ ownRefs (τ := τ) (sig := sig) (.scVector (cV L) (jV L)) :=
    SparseCore.Cfg.mem_ownRefs_of_owner (p := Proc.scVector (cV L) (jV L)) (b := (Proc.scVector (cV L) (jV L)).devRef b) h
  have ne {a b : Ref sig .scVector} (h : a ≠ b) :
      ((Proc.scVector (cV L) (jV L)).devRef a : DevRef τ sig) ≠ (Proc.scVector (cV L) (jV L)).devRef b := fun e => h (Proc.devRef_injective _ e)
  unfold SparseCore.Cfg.ownBufs
  refine (SparseCore.bigSep_erase' (mem cc1_scratch0 rfl)).trans ?_
  rw [SparseCore.bigSep_erase' (Finset.mem_erase.mpr ⟨ne (by decide), mem cc1_scratch1 rfl⟩),
    SparseCore.bigSep_erase' (Finset.mem_erase.mpr ⟨ne (by decide), Finset.mem_erase.mpr ⟨ne (by decide), mem cc1_scratch2 rfl⟩⟩),
    SparseCore.bigSep_erase' (Finset.mem_erase.mpr ⟨ne (by decide), Finset.mem_erase.mpr ⟨ne (by decide), Finset.mem_erase.mpr ⟨ne (by decide), mem cc1_scratch3 rfl⟩⟩⟩)]

theorem pts_sA (f : Buf (Elt F) ((VT d L).loc cc1_scratch0)) :
    (sA.view.loc (VT d L) ↦[sA.view.set]{fullShare} f : sProp 𝕄) = (VT d L).loc cc1_scratch0 ↦{fullShare} f := by
  simp only [Memref.view_whole, View.set_whole]
theorem pts_sB (f : Buf (Elt F) ((VT d L).loc cc1_scratch1)) :
    (sB.view.loc (VT d L) ↦[sB.view.set]{fullShare} f : sProp 𝕄) = (VT d L).loc cc1_scratch1 ↦{fullShare} f := by
  simp only [Memref.view_whole, View.set_whole]
theorem pts_sT (f : Buf (Elt F) ((VT d L).loc cc1_scratch2)) :
    (sT.view.loc (VT d L) ↦[sT.view.set]{fullShare} f : sProp 𝕄) = (VT d L).loc cc1_scratch2 ↦{fullShare} f := by
  simp only [Memref.view_whole, View.set_whole]
theorem pts_sR (f : Buf (Elt F) ((VT d L).loc cc1_scratch3)) :
    (sR.view.loc (VT d L) ↦[sR.view.set]{fullShare} f : sProp 𝕄) = (VT d L).loc cc1_scratch3 ↦{fullShare} f := by
  simp only [Memref.view_whole, View.set_whole]

/-- The task of tile `(L 0, L 1)`: from its share with the result at `o` to its share with the result finished. -/
theorem tile_body (hF : (K (F := F)).Facts) (p : Buf (Elt F) (pLoc d)) (t : Buf (Elt F) (tLoc d)) (o : Buf (Elt F) (oLoc d))
    (O : CellTallies nD τ sig (HIx 1)) (W : Waits sig (HIx 1)) (hO : ∀ g, O g none = 0) :
    iprop(levAts (K (F := F)).L (K (F := F)).lev ∗ emp ∗ share d p t o (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L pV (Memref.isWhole_whole _) tV (Memref.isWhole_whole _) oV (Memref.isWhole_whole _) sA (Memref.isWhole_whole _)
            sB (Memref.isWhole_whole _) sT (Memref.isWhole_whole _) sR (Memref.isWhole_whole _) cc1_scratch4 cc1_scratch5 cc1_scoped0 cc1_scoped1)
          fun _ => iprop(share d p t (outV p t) (wid L) ∗ scopedBufs (V d (cV L) (jV L)) ∗ scopedSems0 (V d (cV L) (jV L))
            ∗ ∃ W', ⌜∀ q ∈ W', q ∈ W ∨ q.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold share
  iintro ⟨#Hlv, -, ⟨Hp0, Hp1, Ht, Ho0, Ho1⟩, ⟨⟨%a, HA⟩, ⟨%b, HB⟩, ⟨%e, HT⟩, ⟨%g, HR⟩, Hbufs⟩, ⟨Hc4, Hc5, Hr0, Hr1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp0 := Entails.of_eq (pts_pRow0 (F := F) d L _).symm $$ Hp0
  ihave Hp1 := Entails.of_eq (pts_pRow1 (F := F) d L _).symm $$ Hp1
  ihave Ht := Entails.of_eq (pts_tRow (F := F) d L _).symm $$ Ht
  ihave Ho0 := Entails.of_eq (pts_oRow0 (F := F) d L _).symm $$ Ho0
  ihave Ho1 := Entails.of_eq (pts_oRow1 (F := F) d L _).symm $$ Ho1
  ihave HA := Entails.of_eq (pts_sA (F := F) d L _).symm $$ HA
  ihave HB := Entails.of_eq (pts_sB (F := F) d L _).symm $$ HB
  ihave HT := Entails.of_eq (pts_sT (F := F) d L _).symm $$ HT
  ihave HR := Entails.of_eq (pts_sR (F := F) d L _).symm $$ HR
  ihave Hwp := (tile_run d L O W p t o a b e g) $$ [Hmw Hp0 Hp1 Ht Ho0 Ho1 HA HB HT HR Hc4 Hc5 Hr0 Hr1 HO]
  · isplitl [Hmw]; · iexact Hmw
    isplitl [Hp0]; · iexact Hp0
    isplitl [Hp1]; · iexact Hp1
    isplitl [Ht]; · iexact Ht
    isplitl [Ho0]; · iexact Ho0
    isplitl [Ho1]; · iexact Ho1
    isplitl [HA]; · iexact HA
    isplitl [HB]; · iexact HB
    isplitl [HT]; · iexact HT
    isplitl [HR]; · iexact HR
    isplitl [Hc4]; · iexact Hc4
    isplitl [Hc5]; · iexact Hc5
    isplitl [Hr0]; · iexact Hr0
    isplitl [Hr1]; · iexact Hr1
    iexact HO
  iapply (wp_wand frame _ _) $$ Hwp
  iintro %_ ⟨Hp0, Hp1, Ht, ⟨%o0, %ho0, Ho0⟩, ⟨%o1, %ho1, Ho1⟩, ⟨%a, HA⟩, ⟨%b, HB⟩, ⟨%e, HT⟩, ⟨%g, HR⟩, Hc4, Hc5, Hr0, Hr1, HO⟩
  isplitl [Hp0 Hp1 Ht Ho0 Ho1]
  · isplitl [Hp0]; · iapply Entails.of_eq (pts_pRow0 (F := F) d L _) $$ Hp0
    isplitl [Hp1]; · iapply Entails.of_eq (pts_pRow1 (F := F) d L _) $$ Hp1
    isplitl [Ht]; · iapply Entails.of_eq (pts_tRow (F := F) d L _) $$ Ht
    isplitl [Ho0]; · iapply Entails.of_eq (done_oRow0 d L p t o0 ho0) $$ Ho0
    iapply Entails.of_eq (done_oRow1 d L p t o1 ho1) $$ Ho1
  isplitl [HA HB HT HR Hbufs]
  · isplitl [HA]; · iexists _; iapply Entails.of_eq (pts_sA (F := F) d L _) $$ HA
    isplitl [HB]; · iexists _; iapply Entails.of_eq (pts_sB (F := F) d L _) $$ HB
    isplitl [HT]; · iexists _; iapply Entails.of_eq (pts_sT (F := F) d L _) $$ HT
    isplitl [HR]; · iexists _; iapply Entails.of_eq (pts_sR (F := F) d L _) $$ HR
    iexact Hbufs
  isplitl [Hc4 Hc5 Hr0 Hr1 Hsems]
  · isplitl [Hc4]; · iexact Hc4
    isplitl [Hc5]; · iexact Hc5
    isplitl [Hr0]; · iexact Hr0
    isplitl [Hr1]; · iexact Hr1
    iexact Hsems
  iexact HO

end Cert.Proof.Pool
-- ==== Proof.Call.lean ====
/-
  The SparseCore call, from any partial sums `p` and partial denominators `t`: what each SparseCore and each tile
  receives and returns, a tile's obligation, and the three arrays cut into the thirty-two tiles' shares and back.
-/
module

public import proofs.«01_k».proof.Proof.Pay

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The arrays the call works over, on every device: the partial sums, the partial denominators, the result's old contents. -/
structure Ops (F : FTy → Type) where
  p : (d : Dev nD) → Buf (Elt F) (pLoc d)
  t : (d : Dev nD) → Buf (Elt F) (tLoc d)
  o : (d : Dev nD) → Buf (Elt F) (oLoc d)

variable (X : Ops F)

/-- Tile `i` of SparseCore `c`: its share before and after its task. -/
abbrev before (d : Dev nD) (w : ℕ) : sProp 𝕄 := share d (X.p d) (X.t d) (X.o d) w
abbrev after (d : Dev nD) (w : ℕ) : sProp 𝕄 := share d (X.p d) (X.t d) (outV (X.p d) (X.t d)) w

/-- A SparseCore takes its sixteen tiles' shares and brings them back finished. -/
def P : (K (F := F)).Pay (nD := nD) (Val := Elt F) (Name := ℕ) (U := UU) where
  st := fun q d c => match q with | 0 => bigSep Finset.univ fun i : Fin ((K (F := F)).nSub 0) => before X d (16 * c.val + i.val)
  dn := fun q d c => match q with | 0 => bigSep Finset.univ fun i : Fin ((K (F := F)).nSub 0) => after X d (16 * c.val + i.val)
  go := fun q d c i => match q with | 0 => before X d (16 * c.val + i.val)
  td := fun q d c i => match q with | 0 => after X d (16 * c.val + i.val)
  x := fun _ _ => iprop(emp)

instance P_storable : (P X).IsStorable where
  st q d c := match q with
    | 0 => (inferInstance : BI.Storable (upEmb : UEmb _ 𝕄) (bigSep Finset.univ fun i : Fin ((K (F := F)).nSub 0) => before X d (16 * c.val + i.val)))
  dn q d c := match q with
    | 0 => (inferInstance : BI.Storable (upEmb : UEmb _ 𝕄) (bigSep Finset.univ fun i : Fin ((K (F := F)).nSub 0) => after X d (16 * c.val + i.val)))
  go q d c i := match q with
    | 0 => (inferInstance : BI.Storable (upEmb : UEmb _ 𝕄) (before X d (16 * c.val + i.val)))
  td q d c i := match q with
    | 0 => (inferInstance : BI.Storable (upEmb : UEmb _ 𝕄) (after X d (16 * c.val + i.val)))

/-! ## A tile's obligation -/

/-- The tile's coordinates in the call's grid. -/
def tileAt (c : Fin (grid1.bound 0)) (s : Fin (grid1.bound 1)) : grid1.Coords := fun
  | 0 => c | 1 => s | ⟨_ + 2, h⟩ => absurd h (Nat.not_lt.2 (Nat.le_add_left _ _))

theorem kernel_at (c : Fin τ.nSC) (s : Fin τ.nSub) :
    defs₀ (F := F) (.scVector c s) 1 () = SparseCore.onTile hcore1 hsub1 (fun c s => cc1__sc_body (tileAt c s) pV (Memref.isWhole_whole _)
      tV (Memref.isWhole_whole _) oV (Memref.isWhole_whole _) sA (Memref.isWhole_whole _) sB (Memref.isWhole_whole _) sT (Memref.isWhole_whole _)
      sR (Memref.isWhole_whole _) cc1_scratch4 cc1_scratch5 cc1_scoped0 cc1_scoped1) ⟨⟩ c s := rfl

/-- Waits recorded at no index are waits recorded at none or at the call's. -/
theorem recorded_weaken {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono .rfl (sep_mono .rfl (sep_mono .rfl (by
    iintro ⟨%W', %h, HO⟩
    iexists W'; isplitr; · ipureintro; exact fun p hp => (h p hp).elim Or.inl fun e => Or.inr (Or.inl e)
    iexact HO)))

theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [kernel_at]; simp only [SparseCore.onTile, hc, and_self, ↓reduceDIte]
  exact (tile_body d (tileAt ⟨_, hc.1⟩ ⟨_, hc.2⟩) facts (X.p d) (X.t d) (X.o d) O W hO).trans (wp_mono frame _ _ fun _ => recorded_weaken)

theorem vecSplit : (K (F := F)).VecSplit' (P X) 0 := by
  intro d c
  show (bigSep Finset.univ fun i : Fin ((K (F := F)).nSub 0) => before X d (16 * c.val + i.val)) ⊢ |={Set.univ}=> iprop(
      (bigSep Finset.univ fun i : Fin ((K (F := F)).nSub 0) => before X d (16 * c.val + i.val))
      ∗ ((bigSep Finset.univ fun i : Fin ((K (F := F)).nSub 0) => after X d (16 * c.val + i.val))
        -∗ bigSep Finset.univ fun i : Fin ((K (F := F)).nSub 0) => after X d (16 * c.val + i.val)))
  iintro H; imodintro
  isplitl [H]; · iexact H
  iintro H; iexact H

/-! ## The three arrays as the thirty-two shares -/

/-- Tile `(c, i)`'s number. -/
abbrev num (x : Fin 2 × Fin 16) : ℕ := 16 * x.1.val + x.2.val

theorem num_inj {x y : Fin 2 × Fin 16} (h : num x = num y) : x = y :=
  Prod.ext (Fin.ext (by have := x.2.isLt; have := y.2.isLt; unfold num at h; omega))
    (Fin.ext (by have := x.2.isLt; have := y.2.isLt; unfold num at h; omega))

/-- A buffer cut by the class `g` of its indices, two neighbouring classes to a tile. -/
theorem cut_two (ℓ : Loc nD τ sig) (g : Idx ℓ → ℕ) (hg : ∀ x, g x < 64) (f : Buf (Elt F) ℓ) :
    (ℓ ↦{fullShare} f : sProp 𝕄) = bigSep Finset.univ fun x : Fin 2 × Fin 16 =>
      iprop((ℓ ↦[Finset.univ.filter fun y => g y = 2 * num x]{fullShare} f) ∗ ℓ ↦[Finset.univ.filter fun y => g y = 2 * num x + 1]{fullShare} f) := by
  have hcover : (Finset.univ : Finset (Fin 2 × Fin 16)).biUnion (fun x =>
      (Finset.univ.filter fun y => g y = 2 * num x) ∪ Finset.univ.filter fun y => g y = 2 * num x + 1) = (Finset.univ : Finset (Idx ℓ)) := by
    ext y
    simp only [Finset.mem_biUnion, Finset.mem_univ, _root_.true_and, Finset.mem_union, Finset.mem_filter, iff_true]
    have := hg y
    refine ⟨(⟨g y / 32, by omega⟩, ⟨g y / 2 % 16, Nat.mod_lt _ (by decide)⟩), ?_⟩
    show g y = 2 * (16 * (g y / 32) + g y / 2 % 16) ∨ g y = 2 * (16 * (g y / 32) + g y / 2 % 16) + 1
    omega
  refine (congrArg (fun I => (ℓ ↦[I]{fullShare} f : sProp 𝕄)) hcover.symm).trans ((pointsTo_biUnion _ _ ?_).trans ?_)
  rotate_left
  · refine bigSep_congr fun x _ => ?_
    have h : (ℓ ↦[(Finset.univ.filter fun y => g y = 2 * num x) ∪ Finset.univ.filter fun y => g y = 2 * num x + 1]{fullShare} f : sProp 𝕄)
        ⊣⊢ iprop((ℓ ↦[Finset.univ.filter fun y => g y = 2 * num x]{fullShare} f) ∗ ℓ ↦[Finset.univ.filter fun y => g y = 2 * num x + 1]{fullShare} f) :=
      pointsTo_union (Finset.disjoint_filter.mpr fun y _ h1 h2 => by omega)
    exact BI.equiv_iff.mp ⟨h.1, h.2⟩
  · intro x _ y _ hne
    refine Finset.disjoint_left.mpr fun z h1 h2 => hne (num_inj ?_)
    simp only [Finset.mem_union, Finset.mem_filter, Finset.mem_univ, _root_.true_and] at h1 h2
    omega

/-- A buffer cut by the class `g` of its indices, one class to a tile. -/
theorem cut_one (ℓ : Loc nD τ sig) (g : Idx ℓ → ℕ) (hg : ∀ x, g x < 32) (f : Buf (Elt F) ℓ) :
    (ℓ ↦{fullShare} f : sProp 𝕄) = bigSep Finset.univ fun x : Fin 2 × Fin 16 => (ℓ ↦[Finset.univ.filter fun y => g y = num x]{fullShare} f) := by
  have hcover : (Finset.univ : Finset (Fin 2 × Fin 16)).biUnion (fun x => Finset.univ.filter fun y => g y = num x) = (Finset.univ : Finset (Idx ℓ)) := by
    ext y
    simp only [Finset.mem_biUnion, Finset.mem_univ, _root_.true_and, Finset.mem_filter, iff_true]
    have := hg y
    refine ⟨(⟨g y / 16, by omega⟩, ⟨g y % 16, Nat.mod_lt _ (by decide)⟩), ?_⟩
    show g y = 16 * (g y / 16) + g y % 16
    omega
  refine (congrArg (fun I => (ℓ ↦[I]{fullShare} f : sProp 𝕄)) hcover.symm).trans (pointsTo_biUnion _ _ ?_)
  intro x _ y _ hne
  refine Finset.disjoint_left.mpr fun z h1 h2 => hne (num_inj ?_)
  simp only [Finset.mem_filter, Finset.mem_univ, _root_.true_and] at h1 h2
  omega

theorem regroup (A B C D E : sProp 𝕄) : iprop(A ∗ B ∗ C ∗ D ∗ E) = iprop((A ∗ B) ∗ C ∗ D ∗ E) := by
  have h1 : iprop(A ∗ B ∗ C ∗ D ∗ E) ⊢ iprop((A ∗ B) ∗ C ∗ D ∗ E) := by
    iintro ⟨H1, H2, H⟩
    isplitl [H1 H2]; · isplitl [H1] <;> iassumption
    iexact H
  have h2 : iprop((A ∗ B) ∗ C ∗ D ∗ E) ⊢ iprop(A ∗ B ∗ C ∗ D ∗ E) := by
    iintro ⟨⟨H1, H2⟩, H⟩
    isplitl [H1]; · iexact H1
    isplitl [H2] <;> iassumption
  exact BI.equiv_iff.mp ⟨h1, h2⟩

theorem shares_eq (d : Dev nD) (p : Buf (Elt F) (pLoc d)) (t : Buf (Elt F) (tLoc d)) (o : Buf (Elt F) (oLoc d)) :
    (bigSep Finset.univ fun x : Fin 2 × Fin 16 => share d p t o (num x) : sProp 𝕄)
      = iprop((pLoc d ↦{fullShare} p) ∗ (tLoc d ↦{fullShare} t) ∗ oLoc d ↦{fullShare} o) := by
  have hp := cut_two (F := F) (pLoc d) (fun x : S25x64x512.Idx => (x 1).val) (fun x => (x 1).isLt) p
  have ht := cut_one (F := F) (tLoc d) (fun x : S64x128.Idx => (x 0).val / 2) (fun x => by have : (x 0).val < 64 := (x 0).isLt; omega) t
  have ho := cut_two (F := F) (oLoc d) (fun x : S64x512.Idx => (x 0).val) (fun x => (x 0).isLt) o
  rw [hp, ht, ho]
  unfold share
  simp only [bigSep_sep']
  exact regroup _ _ _ _ _

theorem st_eq (d : Dev nD) : (bigSep Finset.univ fun c : Fin ((K (F := F)).nCore 0) => (P X).st 0 d c)
    = iprop((pLoc d ↦{fullShare} X.p d) ∗ (tLoc d ↦{fullShare} X.t d) ∗ oLoc d ↦{fullShare} X.o d) :=
  (bigSep_univ_prod (fun x : Fin 2 × Fin 16 => before X d (num x))).symm.trans (shares_eq d _ _ _)
theorem dn_eq (d : Dev nD) : (bigSep Finset.univ fun c : Fin ((K (F := F)).nCore 0) => (P X).dn 0 d c)
    = iprop((pLoc d ↦{fullShare} X.p d) ∗ (tLoc d ↦{fullShare} X.t d) ∗ oLoc d ↦{fullShare} outV (X.p d) (X.t d)) :=
  (bigSep_univ_prod (fun x : Fin 2 × Fin 16 => after X d (num x))).symm.trans (shares_eq d _ _ _)

end Cert.Proof.Pool
-- ==== Proof.Main.lean ====
/-
  The whole program's run: three reshapes, the staged region, the SparseCore call; the arguments end unchanged and the
  result holds what the tiles finish from the region's two arrays.
-/
module

public import proofs.«01_k».proof.Proof.Region
public import proofs.«01_k».proof.Proof.Call

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellsGhost toksInit)
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The twelve arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev p' : DevRef τ sig := Proc.devRef .tc (main_v3_0 : Ref sig .tc)
abbrev t' : DevRef τ sig := Proc.devRef .tc (main_v3_1 : Ref sig .tc)
abbrev o' : DevRef τ sig := Proc.devRef .tc (main_v4 : Ref sig .tc)

/-- The TensorCore's arrays, none scoped. -/
abbrev arrs : Finset (DevRef τ sig) := {a0', a1', a2', a3', a4', a5', v0', v1', v2', p', t', o'}

/-- One array whole. -/
abbrev whole (d : Dev nD) (b : DevRef τ sig) (f : b.ty.Contents (Elt F)) : sProp 𝕄 := pointsTo (d, b) Finset.univ fullShare f

theorem held_arrs (d : Dev nD) (W : Valuation τ sig (Elt F)) :
    (held (SparseCore.T d) arrs W : sProp 𝕄)
      = iprop(whole d a0' (W a0') ∗ whole d a1' (W a1') ∗ whole d a2' (W a2') ∗ whole d a3' (W a3') ∗ whole d a4' (W a4') ∗ whole d a5' (W a5')
          ∗ whole d v0' (W v0') ∗ whole d v1' (W v1') ∗ whole d v2' (W v2') ∗ whole d p' (W p') ∗ whole d t' (W t') ∗ whole d o' (W o')) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_arrs (d : Dev nD) (W : (b : Ref sig .tc) → Buf (Elt F) ((d.tc : Thread nD τ).loc b)) :
    (unscopedBufs d W : sProp 𝕄)
      = iprop(whole d a0' (W main_arg0) ∗ whole d a1' (W main_arg1) ∗ whole d a2' (W main_arg2) ∗ whole d a3' (W main_arg3) ∗ whole d a4' (W main_arg4)
          ∗ whole d a5' (W main_arg5) ∗ whole d v0' (W main_v0) ∗ whole d v1' (W main_v1) ∗ whole d v2' (W main_v2) ∗ whole d p' (W main_v3_0)
          ∗ whole d t' (W main_v3_1) ∗ whole d o' (W main_v4)) := by
  unfold unscopedBufs
  rw [show (Finset.univ.filter fun b : Ref sig .tc => ¬ b.isScoped)
      = {main_arg0, main_arg1, main_arg2, main_arg3, main_arg4, main_arg5, main_v0, main_v1, main_v2, main_v3_0, main_v3_1, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The three reshapes -/

abbrev opSeg : HloOp τ sig (Elt F) := StableHlo.reshape main_arg1 main_v0 (rfl : (.i32 : EltTy) = .i32) shapeCasts_S50000_S25x1x2000
abbrev opB1 : HloOp τ sig (Elt F) := StableHlo.reshape main_arg3 main_v1 (rfl : (.f32 : EltTy) = .f32) shapeCasts_S128_S1x128
abbrev opW2 : HloOp τ sig (Elt F) := StableHlo.reshape main_arg4 main_v2 (rfl : (.f32 : EltTy) = .f32) shapeCasts_S128x1_S1x128

def V0 (d : Dev nD) : Valuation τ sig (Elt F) := fun b => m (d, b)
/-- After the reshapes. -/
def V3 (d : Dev nD) : Valuation τ sig (Elt F) := (opW2 (F := F)).result ((opB1 (F := F)).result ((opSeg (F := F)).result (V0 m d)))

theorem V3_keep (d : Dev nD) (b : DevRef τ sig) (h0 : b ≠ v0') (h1 : b ≠ v1') (h2 : b ≠ v2') : V3 m d b = m (d, b) := by
  unfold V3
  rw [(opW2 (F := F)).result_of_not_mem _ (show b ∉ ({v2'} : Finset (DevRef τ sig)) from fun h => h2 (Finset.mem_singleton.mp h)),
    (opB1 (F := F)).result_of_not_mem _ (show b ∉ ({v1'} : Finset (DevRef τ sig)) from fun h => h1 (Finset.mem_singleton.mp h)),
    (opSeg (F := F)).result_of_not_mem _ (show b ∉ ({v0'} : Finset (DevRef τ sig)) from fun h => h0 (Finset.mem_singleton.mp h))]
  rfl

/-- The arrays the region reads and writes, as it finds them. -/
def Ain (d : Dev nD) : Arrs F d := fun w => V3 m d (Proc.devRef .tc (Pipeline.arrRef spec0 w))

/-- The call's arrays. -/
def ops : Ops F := ⟨fun d => pFin (Ain m d), fun d => tFin (Ain m d), fun d => m (d, o')⟩

/-- The result. -/
def result (d : Dev nD) : S64x512.Idx → F .f32 := outV (pFin (Ain m d)) (tFin (Ain m d))

/-! ## The region's step -/

def ghost (d : Dev nD) : sProp 𝕄 :=
  iprop(cellsGhost (Pipeline.pin (pcfgs (F := F)) adm) EP 0 d ∗ toksInit (Pipeline.pin (pcfgs (F := F)) adm) EP 0 d)

/-- The certificate's own program that enters the region. -/
abbrev enter : Prog (TpuEff nD τ sig (Elt F) (ΛP (F := F)) .tc) PUnit := .op (.customCall (Pipeline.entry 0) ()) .ret

theorem enter_lift : (SparseCore.liftProg (Q := 1) (enter (F := F)) : Prog (TpuEff nD τ sig (Elt F) _ .tc) PUnit)
    = Prog.lift (.customCall (SparseCore.inner (Pipeline.entry 0)) ()) := rfl

theorem region_call [∀ e, Nonempty (Elt F e)] (B : ∀ c : Dev nD, Arrs F c) (d : Dev nD) (Φ : PUnit → sProp 𝕄) :
    iprop((iprop(boundary (T d) ∗ (region B).post d) -∗ Φ ⟨⟩) ∗ boundary (T d) ∗ (region B).pre d
        ∗ levAts (K (F := F)).L (K (F := F)).lev ∗ ghost (F := F) d)
      ⊢ wp frame (wpE ((K (F := F)).defs (D (F := F))) 𝒱 (SparseCore.T d) none) Set.univ
          (Prog.lift (.customCall (SparseCore.inner (Pipeline.entry 0)) ())) Φ := by
  rw [← enter_lift]
  refine BI.Entails.trans ?_ ((K (F := F)).wp_liftProg (D (F := F)) 𝒱 (SparseCore.T d) Set.univ none enter Φ)
  have h := Pipeline.RegionSeg.wp (pcfgs (F := F)) adm (pdats B) (none : HIx 1) cellOf_inj EP defs₀ 𝒱₀ (K (F := F)).L (K (F := F)).lev
    (region B) d none (fun u hu => nomatch hu) .ret Φ
  refine BI.Entails.trans ?_ h
  unfold ghost
  show (iprop(_) : sProp 𝕄) ⊢ _
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-- The region's arrays, one by one. -/
theorem arrays_in (d : Dev nD) :
    ((dat (Ain m d)).arrays ((dat (Ain m d)).arrAt · 0) : sProp 𝕄)
      = iprop(whole d a0' (V3 m d a0') ∗ whole d v0' (V3 m d v0') ∗ whole d a2' (V3 m d a2') ∗ whole d v1' (V3 m d v1') ∗ whole d v2' (V3 m d v2')
        ∗ whole d p' (V3 m d p') ∗ whole d t' (V3 m d t')) := by
  have h := Pipeline.arrays_eq (Pipeline.pin (pcfgs (F := F)) adm) (pdats (fun d => Ain m d)) 0 d arr_whole0
    (fun w => by fin_cases w <;> rfl) ((dat (Ain m d)).arrAt · 0)
  exact h.trans (bigSep_W0 _)

theorem arrays_out (d : Dev nD) :
    ((dat (Ain m d)).arrays ((dat (Ain m d)).arrAt · cfg0.N) : sProp 𝕄)
      = iprop(whole d a0' (V3 m d a0') ∗ whole d v0' (V3 m d v0') ∗ whole d a2' (V3 m d a2') ∗ whole d v1' (V3 m d v1') ∗ whole d v2' (V3 m d v2')
        ∗ whole d p' (pFin (Ain m d)) ∗ whole d t' (tFin (Ain m d))) := by
  have h := Pipeline.arrays_eq (Pipeline.pin (pcfgs (F := F)) adm) (pdats (fun d => Ain m d)) 0 d arr_whole0
    (fun w => by fin_cases w <;> rfl) ((dat (Ain m d)).arrAt · cfg0.N)
  have e0 : (dat (Ain m d)).arrAt 0 cfg0.N = V3 m d a0' := (dat (Ain m d)).arrAt_in 0 rfl _
  have e1 : (dat (Ain m d)).arrAt 1 cfg0.N = V3 m d v0' := (dat (Ain m d)).arrAt_in 1 rfl _
  have e2 : (dat (Ain m d)).arrAt 2 cfg0.N = V3 m d a2' := (dat (Ain m d)).arrAt_in 2 rfl _
  have e3 : (dat (Ain m d)).arrAt 3 cfg0.N = V3 m d v1' := (dat (Ain m d)).arrAt_in 3 rfl _
  have e4 : (dat (Ain m d)).arrAt 4 cfg0.N = V3 m d v2' := (dat (Ain m d)).arrAt_in 4 rfl _
  have e5 := arr_5 (Ain m d)
  have e6 := arr_6 (Ain m d)
  refine h.trans ((bigSep_W0 _).trans ?_)
  rw [e0, e1, e2, e3, e4, e5, e6]

/-! ## The program on the TensorCore -/

/-- What the program keeps for the claims: the arguments as found, the result finished. -/
abbrev FIN (d : Dev nD) : sProp 𝕄 :=
  iprop(whole d a0' (m (d, a0')) ∗ whole d a1' (m (d, a1')) ∗ whole d a2' (m (d, a2')) ∗ whole d a3' (m (d, a3')) ∗ whole d a4' (m (d, a4'))
    ∗ whole d a5' (m (d, a5')) ∗ whole d o' (result m d))

theorem hSeg : (opSeg (F := F)).bufs ⊆ arrs := show ({a1', v0'} : Finset (DevRef τ sig)) ⊆ arrs by decide
theorem hB1 : (opB1 (F := F)).bufs ⊆ arrs := show ({a3', v1'} : Finset (DevRef τ sig)) ⊆ arrs by decide
theorem hW2 : (opW2 (F := F)).bufs ⊆ arrs := show ({a4', v2'} : Finset (DevRef τ sig)) ⊆ arrs by decide

theorem unscoped_held (d : Dev nD) : (unscopedBufs d (fun b => m ((SparseCore.T d).loc b)) : sProp 𝕄) = held (SparseCore.T d) arrs (V0 m d) := by
  rw [unscoped_arrs, held_arrs]; rfl

/-- The TensorCore's state before the call, its debts apart. -/
def atStart (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_start (d : Dev nD) : ((K (F := F)).tcSt EH d 0 : sProp 𝕄) = iprop(owe0 (F := F) d ∗ atStart (F := F) d) := rfl

theorem hmain [∀ e, Nonempty (Elt F e)] (κ : GSem nD τ sig → ℕ) (d : Dev nD) :
    iprop((K (F := F)).ctx EH (P (ops m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (T d) none Set.univ (op := opSeg) (S := arrs) hSeg (V := V0 m d)) $$ [Hb Hheld]
  · isplitl [Hb] <;> iassumption
  iintro ⟨Hb, Hheld⟩
  rw [wp_ret]; imodintro
  iapply (wp_hlo_within 𝒱 (T d) none Set.univ (op := opB1) (S := arrs) hB1 (V := (opSeg (F := F)).result (V0 m d))) $$ [Hb Hheld]
  · isplitl [Hb] <;> iassumption
  iintro ⟨Hb, Hheld⟩
  rw [wp_ret]; imodintro
  iapply (wp_hlo_within 𝒱 (T d) none Set.univ (op := opW2) (S := arrs) hW2 (V := (opB1 (F := F)).result ((opSeg (F := F)).result (V0 m d)))) $$ [Hb Hheld]
  · isplitl [Hb] <;> iassumption
  iintro ⟨Hb, Hheld⟩
  rw [wp_ret]; imodintro
  ihave Hh := (Entails.of_eq (show (held (SparseCore.T d) arrs ((opW2 (F := F)).result ((opB1 (F := F)).result ((opSeg (F := F)).result (V0 m d)))) : sProp 𝕄) = _
    from held_arrs d (V3 m d))) $$ Hheld
  icases Hh with ⟨H0, H1, H2, H3, H4, H5, Hv0, Hv1, Hv2, Hp, Ht, Ho⟩
  -- the region
  ihave Hst := (Entails.of_eq (tcSt_start d)) $$ Hst
  icases Hst with ⟨HO, Hst⟩
  ihave Hlv := (SparseCore.Cfg.ctx_levAts κ) $$ Hctx
  iapply (region_call (fun d => Ain m d) d) $$ [H0 H1 H2 H3 H4 H5 Hv0 Hv1 Hv2 Hp Ht Ho HO Hb HG Hlv Hst Hts]
  isplitl [H1 H3 H4 H5 Ho Hst Hts]
  swap
  · isplitl [Hb]; · iexact Hb
    isplitl [H0 H2 Hv0 Hv1 Hv2 Hp Ht HO]
    · rw [show (region (fun d => Ain m d)).pre d = iprop(owe0 (F := F) d ∗ (dat (Ain m d)).arrays ((dat (Ain m d)).arrAt · 0)) from rfl, arrays_in]
      isplitl [HO]; · iexact HO
      isplitl [H0]; · iexact H0
      isplitl [Hv0]; · iexact Hv0
      isplitl [H2]; · iexact H2
      isplitl [Hv1]; · iexact Hv1
      isplitl [Hv2]; · iexact Hv2
      isplitl [Hp]; · iexact Hp
      iexact Ht
    isplitl [Hlv]; · iexact Hlv
    iexact HG
  rw [show (region (fun d => Ain m d)).post d = iprop(owe0 (F := F) d ∗ (dat (Ain m d)).arrays ((dat (Ain m d)).arrAt · cfg0.N)) from rfl, arrays_out]
  iintro ⟨Hb, HO, H0, -, H2, -, -, Hp, Ht⟩
  -- the SparseCore call
  iapply ((K (F := F)).wp_run (D (F := F)) 𝒱 (EH := EH) (P := P (ops m)) κ d 0) $$ [HO Hst Hb Hts H0 H1 H2 H3 H4 H5 Hp Ht Ho]
  isplitr; · iexact Hctx
  isplitl [HO Hst]
  · iapply (Entails.of_eq (tcSt_start (F := F) d).symm)
    isplitl [HO]; · iexact HO
    iexact Hst
  isplitl [Hp Ht Ho]
  · rw [st_eq]
    isplitl [Hp]; · iexact Hp
    isplitl [Ht]; · iexact Ht
    rw [V3_keep m d o' (by decide) (by decide) (by decide)]
    iexact Ho
  iintro ⟨Hst, Hdn⟩
  ihave Hdn' := (Entails.of_eq (dn_eq (ops m) d)) $$ Hdn
  icases Hdn' with ⟨-, -, Ho⟩
  imodintro
  isplitl [Hst]; · iexact Hst
  rw [V3_keep m d a0' (by decide) (by decide) (by decide), V3_keep m d a1' (by decide) (by decide) (by decide),
    V3_keep m d a2' (by decide) (by decide) (by decide), V3_keep m d a3' (by decide) (by decide) (by decide),
    V3_keep m d a4' (by decide) (by decide) (by decide), V3_keep m d a5' (by decide) (by decide) (by decide)]
  isplitr [Hb Hts]
  · isplitl [H0]; · iexact H0
    isplitl [H1]; · iexact H1
    isplitl [H2]; · iexact H2
    isplitl [H3]; · iexact H3
    isplitl [H4]; · iexact H4
    isplitl [H5]; · iexact H5
    iexact Ho
  isplitl [Hb] <;> iassumption

end Cert.Proof.Pool
-- ==== Proof.Launch.lean ====
/-
  The launch: the resources the program starts from, and the run from any memory: no fault, every semaphore back at zero,
  the six arguments unchanged, the result finished.
-/
module

public import proofs.«01_k».proof.Proof.Main

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-- The region's cells start at round zero, with the tokens of its turns. -/
def uP : UP := initOf (Pipeline.cells (Pipeline.pin (pcfgs (F := F)) adm) cellOf_inj)
  (Pipeline.launchToks (Pipeline.pin (pcfgs (F := F)) adm) cellOf_inj)

def u₀ : UU := (initOf (K (F := F)).hsCells (K (F := F)).hsToks, (uP (F := F), 1))

theorem own_halves (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

theorem fund : (BI.own (EP (uP (F := F))) : sProp 𝕄) ⊢ iprop(|==> bigSep Finset.univ fun d : Dev nD => ghost (F := F) d) := by
  rw [show (fun d : Dev nD => ghost (F := F) d) = fun d => iprop((bigSep Finset.univ fun p : Fin 1 => cellsGhost (Pipeline.pin (pcfgs (F := F)) adm) EP p d)
      ∗ bigSep Finset.univ fun p : Fin 1 => toksInit (Pipeline.pin (pcfgs (F := F)) adm) EP p d) from
    funext fun d => by rw [bigSep_univ_of_subsingleton (0 : Fin 1), bigSep_univ_of_subsingleton (0 : Fin 1)]; rfl, bigSep_sep']
  unfold uP
  iintro H
  imod (Pipeline.fund_ghost (Pipeline.pin (pcfgs (F := F)) adm) EP cellOf_inj) $$ H with ⟨Hc, Ht⟩
  imodintro
  isplitl [Hc] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (ops m)).x q thr) := by
  unfold u₀
  iintro Hu
  ihave H := (own_halves _ _) $$ Hu
  icases H with ⟨HH, HP⟩
  imod fund $$ HP with HG
  imodintro
  isplitl [HH]; · iexact HH
  isplitl [HG]; · iexact HG
  rw [show (bigSep Finset.univ fun thr : Thread nD τ => bigSep Finset.univ fun q : Fin 1 => (P (ops m)).x q thr : sProp 𝕄) = iprop(emp) from
    (bigSep_congr fun thr _ => BI.bigSep_emp_const _).trans (BI.bigSep_emp_const _)]
  iempintro

/-! ## What is read off the last state -/

def fq (d : Dev nD) (s' : Phys nD τ sig (Elt F)) : Prop :=
  s'.mem.mem (d, a0') = m (d, a0') ∧ s'.mem.mem (d, a1') = m (d, a1') ∧ s'.mem.mem (d, a2') = m (d, a2') ∧ s'.mem.mem (d, a3') = m (d, a3')
    ∧ s'.mem.mem (d, a4') = m (d, a4') ∧ s'.mem.mem (d, a5') = m (d, a5') ∧ s'.mem.mem (d, o') = result m d

theorem agree (d : Dev nD) (b : DevRef τ sig) (f : b.ty.Contents (Elt F)) (s' : Phys nD τ sig (Elt F)) :
    iprop(SI s' ∗ whole d b f) ⊢ iprop((⌜s'.mem.mem (d, b) = f⌝ : sProp 𝕄) ∗ SI s') := by
  iintro ⟨HSI, Hb⟩
  ihave H := (persistent_entails_right (SI_pointsTo_agree (st := s') (ℓ := (d, b)) (I := Finset.univ) (q := fullShare) (f := f))) $$ [HSI Hb]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5, Ho⟩, HSI⟩
  ihave H := (agree d a0' _ s') $$ [HSI H0]
  · isplitl [HSI] <;> iassumption
  icases H with ⟨%h0, HSI⟩
  ihave H := (agree d a1' _ s') $$ [HSI H1]
  · isplitl [HSI] <;> iassumption
  icases H with ⟨%h1, HSI⟩
  ihave H := (agree d a2' _ s') $$ [HSI H2]
  · isplitl [HSI] <;> iassumption
  icases H with ⟨%h2, HSI⟩
  ihave H := (agree d a3' _ s') $$ [HSI H3]
  · isplitl [HSI] <;> iassumption
  icases H with ⟨%h3, HSI⟩
  ihave H := (agree d a4' _ s') $$ [HSI H4]
  · isplitl [HSI] <;> iassumption
  icases H with ⟨%h4, HSI⟩
  ihave H := (agree d a5' _ s') $$ [HSI H5]
  · isplitl [HSI] <;> iassumption
  icases H with ⟨%h5, HSI⟩
  ihave H := (agree d o' _ s') $$ [HSI Ho]
  · isplitl [HSI] <;> iassumption
  icases H with ⟨%h6, -⟩
  ipureintro; exact ⟨h0, h1, h2, h3, h4, h5, h6⟩

/-- How the program ends. -/
def QC : PUnit × MemSt nD τ sig (Elt F) → Prop := fun r =>
  (∀ d : Dev nD, r.2.mem (d, a0') = m (d, a0') ∧ r.2.mem (d, a1') = m (d, a1') ∧ r.2.mem (d, a2') = m (d, a2') ∧ r.2.mem (d, a3') = m (d, a3')
    ∧ r.2.mem (d, a4') = m (d, a4') ∧ r.2.mem (d, a5') = m (d, a5') ∧ r.2.mem (d, o') = result m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ops m)) (A := ∅) facts v₀
    (fun q hq => match q with | 0 => nomatch hq)
    (fun q _ => match q with | 0 => tileObl (ops m))
    (fun q _ => match q with | 0 => SparseCore.Cfg.VecSplit.of_plain (vecSplit (ops m)))
    m ρ main (fun d => ghost (F := F) d) (FIN m) (u₀ (F := F)) (sep_elim_left.trans (hu₀ m)) (hmain m ρ) (fq m) (hfin m) (QC m) (fun _ h hz => ⟨h, hz⟩)

end Cert.Proof.Pool
-- ==== Proof.Frames.lean ====
/-
  The frames: the idealized kernel's run at both float readings; the printed kernel has the same text.
-/
module

public import proofs.«01_k».proof.Defs
public import proofs.«01_k».proof.Proof.Gen.Kernel
public import proofs.«01_k».proof.Proof.Launch

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellsGhost toksInit)

/-! ## The frames -/

theorem frame_kernelIdeal : Cert.quiescent_KernelIdeal := fun m ρ _ =>
  (θ_run Cert.KernelIdeal.defs _ _).mono (fun _ h =>
    ⟨fun c => ⟨(h.1 c).1, (h.1 c).2.1, (h.1 c).2.2.1, (h.1 c).2.2.2.1, (h.1 c).2.2.2.2.1, (h.1 c).2.2.2.2.2.1⟩, h.2⟩)
    (run_main (F := Ideal) m ρ)

/-- The kernels of the two programs are the same, label by label. -/
theorem kernels_eq : Cert.Kernel.defs₀ (F := Bits) = Cert.KernelIdeal.defs₀ (F := Bits) := by
  funext pr ℓ a
  match pr, ℓ, a with
  | .tc, 0, (t, s) => rfl
  | .tc, 1, _ => rfl
  | .scVector c s, 1, _ => rfl
  | .scVector c s, 0, _ => rfl
  | .scScalar c, 0, _ => rfl
  | .scScalar c, 1, _ => rfl

theorem defs_eq : Cert.Kernel.defs (F := Bits) = Cert.KernelIdeal.defs (F := Bits) :=
  congrArg (fun d => (Cert.Kernel.sc (F := Bits)).defs (Pipeline.defs Cert.Kernel.pcfgs d)) kernels_eq

theorem frame_kernel : Cert.quiescent_Kernel := fun m ρ _ => by
  rw [defs_eq]
  exact (θ_run Cert.KernelIdeal.defs _ _).mono (fun _ h =>
    ⟨fun c => ⟨(h.1 c).1, (h.1 c).2.1, (h.1 c).2.2.1, (h.1 c).2.2.2.1, (h.1 c).2.2.2.2.1, (h.1 c).2.2.2.2.2.1⟩, h.2⟩)
    (run_main (F := Bits) m ρ)

end Cert.Proof.Pool
-- ==== Proof.Math.lean ====
/-
  The softmax pooling of one segment on extended reals: summing the rows weighted by the exponentials of their scores
  and dividing once by the exponentials' sum is summing the rows weighted by the softmax, the softmax shifted by the
  segment's maximum and the scores by a constant. The rows may hold infinities; the scores are real.
-/
module

public import Idealize.ShloMosaic.Lib.Pointwise

@[expose] public section

noncomputable section

namespace Cert.Proof.Pool

open Idealize.ShloMosaic
open scoped BigOperators

/-- A real factor that is not negative goes into a sum of extended reals. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.mpr ha) (EReal.coe_ne_top a), ih]

/-- A sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The hyperbolic tangent is real everywhere. -/
theorem tanh_real (u : EReal) : ∃ r : ℝ, Ideal.tanh u = (r : EReal) := by
  induction u with
  | bot => exact ⟨-1, rfl⟩
  | top => exact ⟨1, rfl⟩
  | coe r => exact ⟨_, rfl⟩

/-- The score of a row: the two-layer perceptron with one output, without its last bias. -/
def scoreOf {D H : ℕ} (x : Fin D → EReal) (w : Fin D → Fin H → EReal) (p q : Fin H → EReal) : EReal :=
  ∑ h, Ideal.tanh (∑ d, x d * w d h + p h) * q h

/-- The score is real when the last layer's weights are. -/
theorem scoreOf_real {D H : ℕ} (x : Fin D → EReal) (w : Fin D → Fin H → EReal) (p q : Fin H → EReal)
    (hq : ∀ h, ∃ r : ℝ, q h = (r : EReal)) : ∃ r : ℝ, scoreOf x w p q = (r : EReal) := by
  choose q' hq' using hq
  choose t ht using fun h => tanh_real (∑ d, x d * w d h + p h)
  refine ⟨∑ h, t h * q' h, ?_⟩
  unfold scoreOf
  rw [coe_sum]
  refine Finset.sum_congr rfl fun h _ => ?_
  rw [ht, hq', EReal.coe_mul]

variable {n : ℕ} (mem : Fin n → Prop) [DecidablePred mem] (s : Fin n → ℝ) (β : ℝ)

/-- The maximum of a segment's scores, `⊥` when it has no row. -/
def segMax : EReal := Finset.univ.fold max ⊥ fun i => if mem i then ((s i : EReal) + (β : EReal)) else ⊥

/-- The maximum of a segment that has a row is real. -/
theorem segMax_real {i : Fin n} (hi : mem i) : ∃ r : ℝ, segMax mem s β = (r : EReal) := by
  have hlt : segMax mem s β < ⊤ := by
    refine Finset.fold_max_lt (b := ⊥) (f := fun i => if mem i then ((s i : EReal) + (β : EReal)) else ⊥) (s := Finset.univ) ⊤ |>.mpr ⟨bot_lt_top, fun j _ => ?_⟩
    split
    · rw [← EReal.coe_add]; exact EReal.coe_lt_top _
    · exact bot_lt_top
  have hle : ((s i + β : ℝ) : EReal) ≤ segMax mem s β := by
    refine Finset.le_fold_max (b := ⊥) (f := fun i => if mem i then ((s i : EReal) + (β : EReal)) else ⊥) (s := Finset.univ) _ |>.mpr (Or.inr ⟨i, Finset.mem_univ i, ?_⟩)
    rw [if_pos hi, EReal.coe_add]
  exact ⟨(segMax mem s β).toReal, (EReal.coe_toReal hlt.ne (ne_bot_of_le_ne_bot (EReal.coe_ne_bot _) hle)).symm⟩

/-- The exponentials of a segment's scores, summed. -/
def expSum : ℝ := ∑ i, if mem i then Real.exp (s i) else 0

theorem expSum_coe : ((expSum mem s : ℝ) : EReal) = ∑ i, if mem i then ((Real.exp (s i) : ℝ) : EReal) else 0 := by
  unfold expSum
  rw [coe_sum]
  refine Finset.sum_congr rfl fun i _ => ?_
  split
  · rfl
  · exact EReal.coe_zero

theorem expSum_pos {i : Fin n} (hi : mem i) : 0 < expSum mem s := by
  refine Finset.sum_pos' (fun j _ => ?_) ⟨i, Finset.mem_univ i, ?_⟩
  · split
    · exact (Real.exp_pos _).le
    · exact le_rfl
  · rw [if_pos hi]; exact Real.exp_pos _

/-- One division at the end is the softmax's weights inside the sum. `E` is the exponentials of the shifted scores: what
    it is on rows of other segments does not matter. -/
theorem pool_eq (x : Fin n → EReal) (E : Fin n → EReal)
    (hE : ∀ i, mem i → E i = Ideal.exp ((s i : EReal) + (β : EReal) - segMax mem s β)) :
    (∑ i, ((if mem i then 1 else 0) * ((Real.exp (s i) : ℝ) : EReal)) * x i)
        * (if 0 < ((expSum mem s : ℝ) : EReal) then Ideal.div 1 ((expSum mem s : ℝ) : EReal) else 0)
      = ∑ i, if mem i then x i * Ideal.div (E i) (∑ j, if mem j then E j else 0) else 0 := by
  by_cases hne : ∃ i, mem i
  · obtain ⟨i₀, h₀⟩ := hne
    obtain ⟨M, hM⟩ := segMax_real mem s β h₀
    have hT := expSum_pos mem s h₀
    have hE' : ∀ i, mem i → E i = ((Real.exp (s i) * Real.exp (β - M) : ℝ) : EReal) := fun i hi => by
      rw [hE i hi, hM, ← EReal.coe_add, ← EReal.coe_sub, Ideal.exp_coe, ← Real.exp_add]
      congr 2; ring
    have hD : (∑ j, if mem j then E j else 0) = ((expSum mem s * Real.exp (β - M) : ℝ) : EReal) := by
      unfold expSum
      rw [Finset.sum_mul, coe_sum]
      refine Finset.sum_congr rfl fun j _ => ?_
      by_cases hj : mem j
      · rw [if_pos hj, if_pos hj, hE' j hj]
      · rw [if_neg hj, if_neg hj, zero_mul, EReal.coe_zero]
    have hDne : expSum mem s * Real.exp (β - M) ≠ 0 := (mul_pos hT (Real.exp_pos _)).ne'
    rw [if_pos (EReal.coe_pos.mpr hT), Ideal.div_coe hT.ne', one_mul, sum_mul_coe _ _ (one_div_nonneg.mpr hT.le)]
    refine Finset.sum_congr rfl fun i _ => ?_
    by_cases hi : mem i
    · rw [if_pos hi, if_pos hi, one_mul, hD, hE' i hi, Ideal.div_coe hDne, ← EReal.coe_mul, mul_comm _ (x i), mul_assoc,
        ← EReal.coe_mul]
      congr 2
      have := (Real.exp_pos (β - M)).ne'
      have := hT.ne'
      field_simp
    · rw [if_neg hi, if_neg hi, zero_mul, zero_mul, zero_mul]
  · have hno : ∀ i, ¬ mem i := fun i hi => hne ⟨i, hi⟩
    have hl : (∑ i, ((if mem i then 1 else 0) * ((Real.exp (s i) : ℝ) : EReal)) * x i) = 0 :=
      Finset.sum_eq_zero fun i _ => by rw [if_neg (hno i), zero_mul, zero_mul]
    rw [hl, zero_mul]
    exact (Finset.sum_eq_zero fun i _ => if_neg (hno i)).symm

end Cert.Proof.Pool

end
-- ==== Proof.PayValue.lean ====
/-
  The TensorCore body's values on extended reals, read at an index: a row's membership of a segment times the
  exponential of its score, these summed over a block's rows, and the rows weighted by them.
-/
module

public import proofs.«01_k».proof.Proof.Setup
public import proofs.«01_k».proof.Proof.Math

@[expose] public section

noncomputable section

namespace Cert.Proof.Pool

open Cert.KernelIdeal Cert.KernelIdeal.Gen
open Idealize.ShloMosaic
open scoped BigOperators

/-- A comparison's bit, widened and turned into a float, is one or zero. -/
theorem bit_float (g k : BitVec 32) :
    (FloatOps.sitofp .f32 (BitVec.setWidth 32 (IntOp.cmpi .eq g k)) : Ideal .f32) = if g = k then (1 : EReal) else 0 := by
  show ((((BitVec.setWidth 32 (IntOp.cmpi .eq g k)).toInt : ℤ) : ℝ) : EReal) = _
  by_cases h : g = k
  · subst h
    have : IntOp.cmpi .eq g g = 1#1 := by simp [IntOp.cmpi]
    rw [this, if_pos rfl]
    have : (BitVec.setWidth 32 1#1).toInt = 1 := by decide
    rw [this]; simp
  · have : IntOp.cmpi .eq g k = 0#1 := by
      show BitVec.ofBool (g == k) = 0#1
      rw [beq_eq_false_iff_ne.mpr h]; rfl
    rw [this, if_neg h]
    have : (BitVec.setWidth 32 0#1).toInt = 0 := by decide
    rw [this]; simp

/-- A choice by a comparison for equality. -/
theorem select_eq_word {α : Type} (g k : BitVec 32) (a b : α) :
    Scalar.select (IntOp.cmpi .eq g k) a b = if g = k then a else b := by
  by_cases h : g = k
  · subst h
    have : IntOp.cmpi .eq g g = 1#1 := by simp [IntOp.cmpi]
    rw [this, if_pos rfl]; rfl
  · have : IntOp.cmpi .eq g k = 0#1 := by
      show BitVec.ofBool (g == k) = 0#1
      rw [beq_eq_false_iff_ne.mpr h]; rfl
    rw [this, if_neg h]; rfl

section
variable (x : Vec Ideal S2000x512 .f32) (w : Vec Ideal S512x128 .f32) (p q : Vec Ideal S1x128 .f32) (g : Vec Ideal S1x1x2000 .i32)

/-- A row's weight in segment `b`. -/
theorem pay4_apply (r : Fin 2000) (b : Fin 64) :
    k0_pay4 x w p q g (ix2 r b) = (if g (ix3 0 0 r) = BitVec.ofNat 32 b.val then (1 : EReal) else 0)
      * Ideal.exp (scoreOf (fun d => x (ix2 r d)) (fun d h => w (ix2 d h)) (fun h => p (ix2 0 h)) (fun h => q (ix2 0 h))) := by
  pointwise [k0_pay4, k0_pay3]
  rw [bit_float]
  rfl

/-- A segment's weights summed over the block. -/
theorem pay5_apply (b : Fin 64) : k0_pay5 x w p q g (ix1 b) = ∑ r : Fin 2000, k0_pay4 x w p q g (ix2 r b) := by
  pointwise [k0_pay5]

/-- A segment's rows summed over the block, weighted. -/
theorem pay6_apply (b : Fin 64) (c : Fin 512) :
    k0_pay6 x w p q g (ix3 0 b c) = ∑ r : Fin 2000, k0_pay4 x w p q g (ix2 r b) * x (ix2 r c) := by
  pointwise [k0_pay6, k0_pay3]

end

/-- The accumulator of the denominators at an index: lane `k` takes the block's column, the others keep. -/
theorem pay2_apply (k : ℕ) (hk : k < 25) (v : FVec Ideal S64 .f32) (old : Vec Ideal S64x128 .f32) (b : Fin 64) (l : Fin 128) :
    k0_pay2 (BitVec.ofNat 32 k) v (iota .tc S64x128 32 [1] iota_S64x128_d1_w32) old (ix2 b l)
      = if l.val = k then v (ix1 b) else old (ix2 b l) := by
  pointwise [k0_pay2]
  rw [select_eq_word]
  refine if_congr ?_ rfl rfl
  have hl := l.isLt
  rw [← BitVec.toNat_inj, BitVec.toNat_ofNat, BitVec.toNat_ofNat]
  omega

theorem pay1_apply (b : Fin 64) (l : Fin 128) : k0_pay1 (F := Ideal) (ix2 b l) = (0 : EReal) := by
  pointwise [k0_pay1]

end Cert.Proof.Pool

end
-- ==== Proof.Blocks.lean ====
/-
  The blocks that the TensorCore body reads at a point, off the arguments: the point's two thousand rows of `x`, their
  segments, and the perceptron's weights whole.
-/
module

public import proofs.«01_k».proof.Proof.Main
public import proofs.«01_k».proof.Proof.PayValue

@[expose] public section

noncomputable section

namespace Cert.Proof.Pool

open Cert.KernelIdeal Cert.KernelIdeal.Gen
open Idealize.ShloMosaic
open scoped BigOperators

variable {F : FTy → Type} [FloatOps F] (m : (ℓ : Loc nD τ sig) → Buf (Elt F) ℓ) (d : Dev nD)

/-- The six arguments on a device, at their shapes. -/
def argX : S50000x512.Idx → F .f32 := m (d, a0')
def argG : S50000.Idx → BitVec 32 := m (d, a1')
def argW1 : S512x128.Idx → F .f32 := m (d, a2')
def argB1 : S128.Idx → F .f32 := m (d, a3')
def argW2 : S128x1.Idx → F .f32 := m (d, a4')
def argB2 : S1.Idx → F .f32 := m (d, a5')

/-- Row `r` of block `t`. -/
def row (t : Fin 25) (r : Fin 2000) : Fin 50000 := ⟨t.val * 2000 + r.val, by have := t.isLt; have := r.isLt; omega⟩

/-- Point `t` of the grid. -/
def pnt (t : Fin 25) : Fin cfg0.N := ⟨t.val, N25.symm ▸ t.isLt⟩

theorem index_0 : ∀ t : Fin cfg0.N, win0_0.index t = ![t.val, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)

theorem V3_v0 : (V3 m d v0' : S25x1x2000.Idx → BitVec 32) = shapeCast S25x1x2000 (argG m d) shapeCasts_S50000_S25x1x2000 := by
  unfold V3
  rw [(opW2 (F := F)).result_of_not_mem _ (show v0' ∉ ({v2'} : Finset (DevRef τ sig)) by decide),
    (opB1 (F := F)).result_of_not_mem _ (show v0' ∉ ({v1'} : Finset (DevRef τ sig)) by decide)]
  exact StableHlo.reshape_result' ..

theorem V3_v1 : (V3 m d v1' : S1x128.Idx → F .f32) = shapeCast S1x128 (argB1 m d) shapeCasts_S128_S1x128 := by
  unfold V3
  rw [(opW2 (F := F)).result_of_not_mem _ (show v1' ∉ ({v2'} : Finset (DevRef τ sig)) by decide)]
  refine (StableHlo.reshape_result' ..).trans ?_
  rw [(opSeg (F := F)).result_of_not_mem _ (show a3' ∉ ({v0'} : Finset (DevRef τ sig)) by decide)]
  rfl

theorem V3_v2 : (V3 m d v2' : S1x128.Idx → F .f32) = shapeCast S1x128 (argW2 m d) shapeCasts_S128x1_S1x128 := by
  unfold V3
  refine (StableHlo.reshape_result' ..).trans ?_
  rw [(opB1 (F := F)).result_of_not_mem _ (show a4' ∉ ({v1'} : Finset (DevRef τ sig)) by decide),
    (opSeg (F := F)).result_of_not_mem _ (show a4' ∉ ({v0'} : Finset (DevRef τ sig)) by decide)]
  rfl

theorem xB_apply (t : Fin 25) (r : Fin 2000) (k : Fin 512) : xB (Ain m d) (pnt t) (ix2 r k) = argX m d (ix2 (row t r) k) := by
  show V3 m d a0' (((cfg0.win 0).blk (pnt t)).view.emb (ix2 r k)) = _
  rw [V3_keep m d a0' (by decide) (by decide) (by decide)]
  refine congrArg (argX m d) (funext fun a => Fin.ext ?_)
  match a with
  | ⟨0, _⟩ => blk_simp [index_0] <;> rfl
  | ⟨1, _⟩ => blk_simp [index_0] <;> rfl

theorem sB_apply (t : Fin 25) (r : Fin 2000) : sB' (Ain m d) (pnt t) (ix3 0 0 r) = argG m d (ix1 (row t r)) := by
  show V3 m d v0' (((cfg0.win 1).blk (pnt t)).view.emb (ix3 0 0 r)) = _
  rw [V3_v0]
  have e : (((cfg0.win 1).blk (pnt t)).view.emb (ix3 0 0 r) : S25x1x2000.Idx) = ix3 t 0 r := by
    refine funext fun a => Fin.ext ?_
    match a with
    | ⟨0, _⟩ => blk_simp [index_1] <;> rfl
    | ⟨1, _⟩ => blk_simp [index_1] <;> rfl
    | ⟨2, _⟩ => blk_simp [index_1] <;> rfl
  rw [e]
  pointwise
  rfl

theorem w1B_apply (t : Fin 25) (k : Fin 512) (h : Fin 128) : w1B (Ain m d) (pnt t) (ix2 k h) = argW1 m d (ix2 k h) := by
  show V3 m d a2' (((cfg0.win 2).blk (pnt t)).view.emb (ix2 k h)) = _
  rw [V3_keep m d a2' (by decide) (by decide) (by decide)]
  refine congrArg (argW1 m d) (funext fun a => Fin.ext ?_)
  match a with
  | ⟨0, _⟩ => blk_simp [index_2] <;> rfl
  | ⟨1, _⟩ => blk_simp [index_2] <;> rfl

theorem b1B_apply (t : Fin 25) (h : Fin 128) : b1B (Ain m d) (pnt t) (ix2 0 h) = argB1 m d (ix1 h) := by
  show V3 m d v1' (((cfg0.win 3).blk (pnt t)).view.emb (ix2 0 h)) = _
  rw [V3_v1]
  have e : (((cfg0.win 3).blk (pnt t)).view.emb (ix2 0 h) : S1x128.Idx) = ix2 0 h := by
    refine funext fun a => Fin.ext ?_
    match a with
    | ⟨0, _⟩ => blk_simp [index_3] <;> rfl
    | ⟨1, _⟩ => blk_simp [index_3] <;> rfl
  rw [e]
  pointwise

theorem w2B_apply (t : Fin 25) (h : Fin 128) : w2B (Ain m d) (pnt t) (ix2 0 h) = argW2 m d (ix2 h 0) := by
  show V3 m d v2' (((cfg0.win 4).blk (pnt t)).view.emb (ix2 0 h)) = _
  rw [V3_v2]
  have e : (((cfg0.win 4).blk (pnt t)).view.emb (ix2 0 h) : S1x128.Idx) = ix2 0 h := by
    refine funext fun a => Fin.ext ?_
    match a with
    | ⟨0, _⟩ => blk_simp [index_4] <;> rfl
    | ⟨1, _⟩ => blk_simp [index_4] <;> rfl
  rw [e]
  pointwise

end Cert.Proof.Pool

end
-- ==== Proof.RowValue.lean ====
/-
  What a tile computes for one segment, on extended reals: the row of partial sums added over the twenty-five blocks,
  times the reciprocal of the row of partial denominators added over its lanes.
-/
module

public import proofs.«01_k».proof.Proof.Rows
public import Idealize.ShloMosaic.Lib.Pointwise

@[expose] public section

noncomputable section

namespace Cert.Proof.Pool

open Cert.KernelIdeal Cert.KernelIdeal.Gen
open Idealize.ShloMosaic hiding ix0 ix1 ix2 ix3
open Idealize.ShloMosaic.ValueIdx (ix1 ix2 ix3)
open scoped BigOperators

/-- The word of all zeros is the number zero. -/
theorem zero_word : (Scalar.ofBits .f32 0x00000000#32 : Ideal .f32) = (0 : EReal) := by
  show Ideal.ofBits .f32 0#32 = 0
  exact Ideal.ofBits_zero _

/-- A chunk's accumulator is the sum over the blocks. -/
theorem acc_sum (f : S25x1x512.Idx → Ideal .f32) (c : ℕ) (l : Fin 16) (n : ℕ) :
    acc f c n (ix1 l) = (∑ k ∈ Finset.range n, f (ix3 (blk k) 0 (lane c l)) : EReal) := by
  induction n with
  | zero => rw [Finset.sum_range_zero, acc_zero]; exact zero_word
  | succ n ih =>
    rw [Finset.sum_range_succ, acc_succ, ← ih]
    rfl

theorem acc_all (f : S25x1x512.Idx → Ideal .f32) (c : ℕ) (l : Fin 16) :
    acc f c 25 (ix1 l) = (∑ k : Fin 25, f (ix3 k 0 (lane c l)) : EReal) := by
  rw [acc_sum, Finset.sum_range]
  refine Finset.sum_congr rfl fun k _ => ?_
  have : blk k.val = k := Fin.ext (Nat.mod_eq_of_lt k.isLt)
  rw [this]

/-- The denominators' chunks added up lane by lane. -/
theorem tsum_sum (f : S2x128.Idx → Ideal .f32) (r : Fin 2) (l : Fin 16) (n : ℕ) :
    tsum f r n (ix1 l) = (∑ c ∈ Finset.range n, f (ix2 r (tlane c l)) : EReal) := by
  induction n with
  | zero => rw [Finset.sum_range_zero]; exact zero_word
  | succ n ih =>
    rw [Finset.sum_range_succ, ← ih]
    rfl

/-- The lanes added up left to right. -/
theorem lsum_sum (v : FVec Ideal S16 .f32) (n : ℕ) :
    lsum v n = (∑ i ∈ Finset.range (n + 1), v (ix1 ⟨i % 16, Nat.mod_lt _ (by decide)⟩) : EReal) := by
  induction n with
  | zero => rw [Finset.sum_range_succ, Finset.sum_range_zero, zero_add]; rfl
  | succ n ih =>
    rw [Finset.sum_range_succ, ← ih]
    rfl

/-- The denominator of a segment: its row of partial denominators, summed. -/
theorem denom_sum (f : S2x128.Idx → Ideal .f32) (r : Fin 2) :
    lsum (tsum f r 8) 15 = (∑ l : Fin 128, f (ix2 r l) : EReal) := by
  rw [lsum_sum, Finset.sum_range, Fin.sum_univ_tiles 8 16 (show 8 * 16 = 128 from rfl), Finset.sum_comm]
  refine Finset.sum_congr rfl fun l _ => ?_
  have hl : (⟨l.val % 16, Nat.mod_lt _ (by decide)⟩ : Fin 16) = l := Fin.ext (Nat.mod_eq_of_lt l.isLt)
  rw [hl, tsum_sum, Finset.sum_range]
  refine Finset.sum_congr rfl fun c _ => congrArg (fun z => f (ix2 r z)) (Fin.ext ?_)
  have := c.isLt; have := l.isLt
  show (16 * c.val + l.val) % 128 = c.val * 16 + l.val
  omega

/-- The reciprocal, or zero. -/
theorem recip_apply (s : Ideal .f32) (l : Fin 16) :
    recip s (ix1 l) = (if (0 : EReal) < s then Ideal.div 1 s else 0 : EReal) := by
  show Scalar.select (Ideal.cmp .ogt s (Ideal.ofBits .f32 0x00000000#32)) (Ideal.div (Ideal.ofBits .f32 0x3F800000#32) s)
    (Ideal.ofBits .f32 0x00000000#32) = _
  rw [Ideal.ofBits_zero_f32, Ideal.ofBits_one_f32, Ideal.cmp_ogt, Scalar.select_ofBool]
  exact if_congr decide_eq_true_iff rfl rfl

/-- A finished element: the sums over the blocks, times the reciprocal of the summed denominators. -/
theorem outRow_apply (f : S25x1x512.Idx → Ideal .f32) (t : S2x128.Idx → Ideal .f32) (r : Fin 2) (c : Fin 512) :
    outRow f t r (ix1 c) = ((∑ k : Fin 25, f (ix3 k 0 c))
      * (if (0 : EReal) < ∑ l : Fin 128, t (ix2 r l) then Ideal.div 1 (∑ l : Fin 128, t (ix2 r l)) else 0) : EReal) := by
  show acc f (c.val / 16) 25 (ix1 ⟨c.val % 16, _⟩) * recip (lsum (tsum t r 8) 15) (ix1 ⟨c.val % 16, _⟩) = _
  rw [acc_all, recip_apply, denom_sum]
  have : lane (c.val / 16) ⟨c.val % 16, Nat.mod_lt _ (by decide)⟩ = c := Fin.ext (by
    have := c.isLt
    show (16 * (c.val / 16) + c.val % 16) % 512 = c.val
    omega)
  rw [this]

end Cert.Proof.Pool

end
-- ==== Proof.KernelValue.lean ====
/-
  The kernel's result on extended reals, read at an index: the rows of a segment weighted by the exponentials of their
  scores and summed, times the reciprocal of the exponentials' sum.
-/
module

public import proofs.«01_k».proof.Proof.Blocks
public import proofs.«01_k».proof.Proof.RowValue

@[expose] public section

noncomputable section

namespace Cert.Proof.Pool

open Cert.KernelIdeal Cert.KernelIdeal.Gen
open Idealize.ShloMosaic
open scoped BigOperators

variable (m : (ℓ : Loc nD τ sig) → Buf (Elt Ideal) ℓ) (d : Dev nD)

/-- Row `i`'s score, without the last bias. -/
def score (i : Fin 50000) : EReal :=
  scoreOf (fun k => argX m d (ix2 i k)) (fun k h => argW1 m d (ix2 k h)) (fun h => argB1 m d (ix1 h)) (fun h => argW2 m d (ix2 h 0))

/-- Row `i` is of segment `b`. -/
abbrev inSeg (b : Fin 64) (i : Fin 50000) : Prop := argG m d (ix1 i) = BitVec.ofNat 32 b.val

/-- Row `i`'s weight in segment `b`. -/
def weight (b : Fin 64) (i : Fin 50000) : EReal := (if inSeg m d b i then 1 else 0) * Ideal.exp (score m d i)

/-- The body's weights are the rows' weights. -/
theorem pay4_row (t : Fin 25) (r : Fin 2000) (b : Fin 64) :
    k0_pay4 (xB (Ain m d) (pnt t)) (w1B (Ain m d) (pnt t)) (b1B (Ain m d) (pnt t)) (w2B (Ain m d) (pnt t)) (sB' (Ain m d) (pnt t)) (ix2 r b)
      = weight m d b (row t r) := by
  rw [pay4_apply, sB_apply]
  unfold weight score
  simp only [xB_apply, w1B_apply, b1B_apply, w2B_apply]

theorem dB_apply (t : Fin 25) (b : Fin 64) : dB (Ain m d) (pnt t) (ix1 b) = (∑ r : Fin 2000, weight m d b (row t r) : EReal) := by
  unfold dB
  rw [pay5_apply]
  exact Finset.sum_congr rfl fun r _ => pay4_row m d t r b

theorem pFin_apply (t : Fin 25) (b : Fin 64) (c : Fin 512) :
    pFin (Ain m d) (ix3 t b c) = (∑ r : Fin 2000, weight m d b (row t r) * argX m d (ix2 (row t r) c) : EReal) := by
  show pB (Ain m d) (pnt t) (ValueIdx.ix3 0 b c) = _
  rw [← ix3_eq_valueIdx]
  unfold pB
  rw [pay6_apply]
  exact Finset.sum_congr rfl fun r _ => by rw [pay4_row, xB_apply]

/-- The accumulator after block `n`: the lanes up to `n` hold their blocks' sums, the others zero. -/
theorem tAcc_apply (b : Fin 64) (l : Fin 128) : ∀ (n : ℕ) (h : n < cfg0.N), n < 25 →
    tAcc (Ain m d) n h (ix2 b l) = (if hl : l.val ≤ n ∧ l.val < 25 then dB (Ain m d) (pnt ⟨l.val, hl.2⟩) (ix1 b) else 0 : EReal)
  | 0, h, _ => by
    show k0_pay2 (BitVec.ofNat 32 0) _ (iota .tc S64x128 32 [1] iota_S64x128_d1_w32) k0_pay1 (ix2 b l) = _
    rw [pay2_apply 0 (by omega), pay1_apply]
    by_cases hl : l.val = 0
    · rw [if_pos hl, dif_pos ⟨by omega, by omega⟩]
      have : (⟨0, h⟩ : Fin cfg0.N) = pnt ⟨l.val, by omega⟩ := Fin.ext hl.symm
      rw [this]
    · rw [if_neg hl, dif_neg (by omega)]
  | n + 1, h, hn => by
    show k0_pay2 (BitVec.ofNat 32 (n + 1)) _ (iota .tc S64x128 32 [1] iota_S64x128_d1_w32) (tAcc (Ain m d) n (Nat.lt_of_succ_lt h)) (ix2 b l) = _
    rw [pay2_apply (n + 1) hn, tAcc_apply b l n _ (by omega)]
    by_cases hl : l.val = n + 1
    · rw [if_pos hl, dif_pos ⟨by omega, by omega⟩]
      have : (⟨n + 1, h⟩ : Fin cfg0.N) = pnt ⟨l.val, by omega⟩ := Fin.ext hl.symm
      rw [this]
    · rw [if_neg hl]
      by_cases hl' : l.val ≤ n
      · rw [dif_pos ⟨hl', by omega⟩, dif_pos ⟨by omega, by omega⟩]
      · rw [dif_neg (by omega), dif_neg (by omega)]

/-- A segment's denominators over all lanes are its weights over all rows. -/
theorem tFin_sum (b : Fin 64) : (∑ l : Fin 128, tFin (Ain m d) (ix2 b l) : EReal) = ∑ i : Fin 50000, weight m d b i := by
  rw [Fin.sum_univ_two_halves 25 103 (by decide), Fin.sum_univ_tiles 25 2000 (by decide) (fun i => weight m d b i)]
  have hz : (∑ k : Fin 103, tFin (Ain m d) (ix2 b ⟨25 + k.val, by have := k.isLt; omega⟩) : EReal) = 0 :=
    Finset.sum_eq_zero fun k _ => by
      unfold tFin
      rw [tAcc_apply m d b _ 24 _ (by omega), dif_neg]
      rintro ⟨_, h⟩
      simp only at h
      omega
  rw [hz, add_zero]
  refine Finset.sum_congr rfl fun t _ => ?_
  unfold tFin
  rw [tAcc_apply m d b _ 24 _ (by omega), dif_pos ⟨by have := t.isLt; simp only; omega, t.isLt⟩]
  exact dB_apply m d t b

/-- The kernel's result at an index. -/
theorem result_apply (b : Fin 64) (c : Fin 512) :
    result m d (ix2 b c) = ((∑ i : Fin 50000, weight m d b i * argX m d (ix2 i c))
      * (if (0 : EReal) < ∑ i : Fin 50000, weight m d b i then Ideal.div 1 (∑ i : Fin 50000, weight m d b i) else 0) : EReal) := by
  have hrow : ∀ l : Fin 128, tFin (Ain m d) (ValueIdx.ix2 ⟨(2 * (b.val / 2) + b.val % 2) % 64, Nat.mod_lt _ (by decide)⟩ l)
      = tFin (Ain m d) (ix2 b l) := fun l => by
    have : (⟨(2 * (b.val / 2) + b.val % 2) % 64, Nat.mod_lt _ (by decide)⟩ : Fin 64) = b := Fin.ext (by
      have := b.isLt
      show (2 * (b.val / 2) + b.val % 2) % 64 = b.val
      omega)
    rw [this, ix2_eq_valueIdx]
  have hp : ∀ k : Fin 25, pFin (Ain m d) (ValueIdx.ix3 k b c) = (∑ r : Fin 2000, weight m d b (row k r) * argX m d (ix2 (row k r) c) : EReal) :=
    fun k => by rw [← ix3_eq_valueIdx, pFin_apply]
  refine (outRow_apply (fun y => pFin (Ain m d) (ValueIdx.ix3 (y 0) b (y 2)))
    (fun y => tFin (Ain m d) (ValueIdx.ix2 ⟨(2 * (b.val / 2) + (y 0).val) % 64, Nat.mod_lt _ (by decide)⟩ (y 1)))
    ⟨b.val % 2, Nat.mod_lt _ (by decide)⟩ c).trans ?_
  show (∑ k : Fin 25, pFin (Ain m d) (ValueIdx.ix3 k b c))
    * (if (0 : EReal) < ∑ l : Fin 128, tFin (Ain m d) (ValueIdx.ix2 ⟨(2 * (b.val / 2) + b.val % 2) % 64, _⟩ l)
        then Ideal.div 1 (∑ l : Fin 128, tFin (Ain m d) (ValueIdx.ix2 ⟨(2 * (b.val / 2) + b.val % 2) % 64, _⟩ l)) else 0) = _
  rw [Finset.sum_congr rfl fun l _ => hrow l, tFin_sum, Finset.sum_congr rfl fun k _ => hp k,
    Fin.sum_univ_tiles 25 2000 (by decide) (fun i => weight m d b i * argX m d (ix2 i c))]
  rfl

end Cert.Proof.Pool

end
-- ==== Proof.RefOps.lean ====
/-
  The reference's indexed operations, read at one element: its two accumulating scatters into the segments, and its
  gather of a segment's entry for a row of that segment.
-/
module

public import proofs.«01_k».proof.Proof.Gen.ReferenceIdeal.Run
public import Idealize.ShloMosaic.Lib.Routing.OpsPair
public import Idealize.ShloMosaic.Lib.Routing.OpsSet
public import Idealize.ShloMosaic.Lib.ValueIdxRank1
public import Idealize.ShloMosaic.Lib.Pointwise

@[expose] public section

noncomputable section

namespace Cert.Proof.Pool

open Cert.ReferenceIdeal Cert.ReferenceIdeal.Gen
open Idealize.ShloMosaic
open scoped BigOperators

/-- A word holds a segment's number exactly when, read signed, it is that number. -/
theorem toInt_eq_segment (g : BitVec 32) (b : Fin 64) : g.toInt = (b.val : Int) ↔ g = BitVec.ofNat 32 b.val := by
  have hb := b.isLt
  constructor
  · intro h
    rw [← BitVec.toInt_inj, h, StableHlo.Predicate.toInt_ofNat_small _ (by omega)]
  · rintro rfl
    exact StableHlo.Predicate.toInt_ofNat_small _ (by omega)

/-- Where an update of the scatter of a vector lands. -/
theorem lands1 (g : IVec S50000x1 32) (i : Fin 50000) (b : Fin 64) :
    scatter_S64_S50000x1_S50000_n_0_0_1.resultIdx? (ValueIdx.ix1 i) g = some (ValueIdx.ix1 b)
      ↔ g (ValueIdx.ix2 i 0) = BitVec.ofNat 32 b.val := by
  have hm : (0 : Fin 1) ∈ scatter_S64_S50000x1_S50000_n_0_0_1.scatterDimsToOperandDims := List.mem_singleton.mpr rfl
  have hsi : scatter_S64_S50000x1_S50000_n_0_0_1.siIdx (ValueIdx.ix1 i) ⟨_, List.idxOf_lt_length_iff.2 hm⟩ = ValueIdx.ix2 i 0 := by
    funext a
    match a with
    | ⟨0, _⟩ => rfl
    | ⟨1, _⟩ => rfl
  have hw : scatter_S64_S50000x1_S50000_n_0_0_1.window (ValueIdx.ix1 i) 0 = 0 := by
    unfold ScatterDims.window
    rw [dif_neg fun h => (of_decide_eq_true (List.mem_filter.1 h).2) (List.mem_singleton.mpr rfl)]
  rw [Routing.resultIdx?_ix1, hw]
  unfold ScatterDims.start
  rw [dif_pos hm, hsi, ← toInt_eq_segment]
  simp

/-- Where an update of the scatter of rows lands. -/
theorem lands2 (g : IVec S50000x1 32) (i : Fin 50000) (k : Fin 512) (b : Fin 64) (c : Fin 512) :
    scatter_S64x512_S50000x1_S50000x512_1_0_0_1.resultIdx? (ValueIdx.ix2 i k) g = some (ValueIdx.ix2 b c)
      ↔ g (ValueIdx.ix2 i 0) = BitVec.ofNat 32 b.val ∧ k = c := by
  have hm : (0 : Fin 2) ∈ scatter_S64x512_S50000x1_S50000x512_1_0_0_1.scatterDimsToOperandDims := List.mem_singleton.mpr rfl
  have hn : (1 : Fin 2) ∉ scatter_S64x512_S50000x1_S50000x512_1_0_0_1.scatterDimsToOperandDims :=
    fun h => absurd (List.mem_singleton.mp h) (by decide)
  have hsi : scatter_S64x512_S50000x1_S50000x512_1_0_0_1.siIdx (ValueIdx.ix2 i k) ⟨_, List.idxOf_lt_length_iff.2 hm⟩ = ValueIdx.ix2 i 0 := by
    funext a
    match a with
    | ⟨0, _⟩ => rfl
    | ⟨1, _⟩ => rfl
  have hw0 : scatter_S64x512_S50000x1_S50000x512_1_0_0_1.window (ValueIdx.ix2 i k) 0 = 0 := by
    unfold ScatterDims.window
    rw [dif_neg fun h => (of_decide_eq_true (List.mem_filter.1 h).2) (List.mem_singleton.mpr rfl)]
  have hw1 : scatter_S64x512_S50000x1_S50000x512_1_0_0_1.window (ValueIdx.ix2 i k) 1 = k.val := by
    have h1 : (1 : Fin 2) ∈ scatter_S64x512_S50000x1_S50000x512_1_0_0_1.sKept :=
      List.mem_filter.2 ⟨List.mem_finRange _, decide_eq_true fun h => absurd (List.mem_singleton.mp h) (by decide)⟩
    unfold ScatterDims.window
    rw [dif_pos h1]
    rfl
  rw [Routing.resultIdx?_ix2, hw0, hw1]
  unfold ScatterDims.start
  rw [dif_pos hm, dif_neg hn, hsi, ← toInt_eq_segment, Fin.ext_iff]
  simp

/-- The vector's scatter at a segment: the entries of the segment's rows, summed onto what was there. -/
theorem scatter1_apply (z : FVec Ideal S64 .f32) (g : IVec S50000x1 32) (u : FVec Ideal S50000 .f32) (b : Fin 64) :
    Host.scatterAdd scatter_S64_S50000x1_S50000_n_0_0_1 z g u (ix1 b)
      = z (ix1 b) + ∑ i : Fin 50000, if g (ix2 i 0) = BitVec.ofNat 32 b.val then u (ix1 i) else 0 := by
  show Ideal.hostScatterAdd scatter_S64_S50000x1_S50000_n_0_0_1 z g u (ix1 b) = _
  simp only [ix1_eq_valueIdx, ix2_eq_valueIdx]
  unfold Ideal.hostScatterAdd
  rw [Finset.sum_filter, ← Equiv.sum_comp (ValueIdx.idxEquiv1 (n := 50000)).symm]
  refine congrArg _ (Finset.sum_congr rfl fun i _ => ?_)
  exact if_congr (lands1 g i b) rfl rfl

/-- The rows' scatter at a segment and a column: the entries of the segment's rows, summed onto what was there. -/
theorem scatter2_apply (z : FVec Ideal S64x512 .f32) (g : IVec S50000x1 32) (u : FVec Ideal S50000x512 .f32) (b : Fin 64) (c : Fin 512) :
    Host.scatterAdd scatter_S64x512_S50000x1_S50000x512_1_0_0_1 z g u (ix2 b c)
      = z (ix2 b c) + ∑ i : Fin 50000, if g (ix2 i 0) = BitVec.ofNat 32 b.val then u (ix2 i c) else 0 := by
  show Ideal.hostScatterAdd scatter_S64x512_S50000x1_S50000x512_1_0_0_1 z g u (ix2 b c) = _
  simp only [ix2_eq_valueIdx]
  unfold Ideal.hostScatterAdd
  rw [Finset.sum_filter, ValueIdx.sum_idx2]
  refine congrArg _ (Finset.sum_congr rfl fun i _ => ?_)
  rw [Finset.sum_congr rfl fun k _ => if_congr (lands2 g i k b c) rfl rfl]
  by_cases h : g (ValueIdx.ix2 i 0) = BitVec.ofNat 32 b.val
  · simp [h]
  · simp [h]

/-- The gather at a row of segment `b` takes the segment's entry. -/
theorem gather_apply (v : FVec Ideal S64 .f32) (g : IVec S50000x1 32) (i : Fin 50000) (b : Fin 64)
    (h : g (ix2 i 0) = BitVec.ofNat 32 b.val) :
    Host.gather gather_S64_S50000x1_S50000_n_0_n_n_0_1_1 v g (ix1 i) = v (ix1 b) := by
  simp only [ix1_eq_valueIdx, ix2_eq_valueIdx] at h ⊢
  exact Routing.gather_take1 _ rfl rfl rfl rfl v g i b h (by norm_num)

end Cert.Proof.Pool
-- ==== Proof.RefValue.lean ====
/-
  The reference's result on extended reals, read at an index: the softmax over each segment, the greatest score
  subtracted, as weights of the segment's rows.
-/
module

public import proofs.«01_k».proof.Proof.RefOps
public import proofs.«01_k».proof.Proof.PayValue

@[expose] public section

noncomputable section

namespace Cert.Proof.Pool

open Cert.ReferenceIdeal Cert.ReferenceIdeal.Gen
open Idealize.ShloMosaic
open scoped BigOperators

/-- The rows' scores. -/
def rScore (x : FVec Ideal S50000x512 .f32) (w : FVec Ideal S512x128 .f32) (p : FVec Ideal S128 .f32) (q : FVec Ideal S128x1 .f32)
    (z : FVec Ideal S1 .f32) : FVec Ideal S50000 .f32 :=
  shapeCast _ (addf (Host.dotGeneral dot_S50000x128_S128x1_S50000x1_1_0_0_1_n_n none (Host.tanh (addf (Host.dotGeneral dot_S50000x512_S512x128_S50000x128_1_0_0_1_n_n none x w) (broadcastInDim S50000x128 ![0, 1] bcast_S1x128_S50000x128_0_1 (broadcastInDim S1x128 ![1] bcast_S128_S1x128_1 p)))) q) (broadcastInDim S50000x1 ![0, 1] bcast_S1x1_S50000x1_0_1 (broadcastInDim S1x1 ![1] bcast_S1_S1x1_1 z))) shapeCasts_S50000x1_S50000

/-- The greatest score of each segment. -/
def rMax (g : IVec S50000 32) (s : FVec Ideal S50000 .f32) : FVec Ideal S64 .f32 :=
  Host.reduce FloatOps.maximumf (select (cmpi .eq (broadcastInDim S50000x64 ![0, 1] bcast_S50000x1_S50000x64_0_1 (broadcastInDim S50000x1 ![0] bcast_S50000_S50000x1_0 g)) (broadcastInDim S50000x64 ![0, 1] bcast_S1x64_S50000x64_0_1 (broadcastInDim S1x64 ![1] bcast_S64_S1x64_1 (iotaInDim S64 32 0)))) (broadcastInDim S50000x64 ![0, 1] bcast_S50000x1_S50000x64_0_1 (broadcastInDim S50000x1 ![0] bcast_S50000_S50000x1_0 s)) (broadcastInDim S50000x64 ![] bcast_S_S50000x64 (id (constant S_ .f32 0xFF800000#32)))) (constant S_ .f32 0xFF800000#32) reducesTo_S50000x64_S64_d0 h_S_

/-- Each row's segment number as a gather reads it. -/
def rIdx (g : IVec S50000 32) : IVec S50000x1 32 :=
  broadcastInDim S50000x1 ![0] bcast_S50000_S50000x1_0 (select (cmpi .slt g (broadcastInDim S50000 ![] bcast_S_S50000 (constantI S_ 32 0#32))) (addi g (broadcastInDim S50000 ![] bcast_S_S50000 (constantI S_ 32 64#32))) g)

/-- The rows' exponentials, the segment's greatest score subtracted. -/
def rExp (g : IVec S50000 32) (s : FVec Ideal S50000 .f32) : FVec Ideal S50000 .f32 :=
  Host.exp (subf s (Host.gather gather_S64_S50000x1_S50000_n_0_n_n_0_1_1 (rMax g s) (rIdx g)))

/-- The exponentials summed over each segment. -/
def rDen (g : IVec S50000 32) (e : FVec Ideal S50000 .f32) : FVec Ideal S64 .f32 :=
  Host.scatterAdd scatter_S64_S50000x1_S50000_n_0_0_1 (broadcastInDim S64 ![] bcast_S_S64 (constant S_ .f32 0x00000000#32)) (broadcastInDim S50000x1 ![0] bcast_S50000_S50000x1_0 g) e

/-- The rows' softmax weights. -/
def rWeight (g : IVec S50000 32) (e : FVec Ideal S50000 .f32) : FVec Ideal S50000 .f32 :=
  Host.divf e (Host.gather gather_S64_S50000x1_S50000_n_0_n_n_0_1_1 (rDen g e) (rIdx g))

/-- The weighted rows summed over each segment. -/
def rOut (x : FVec Ideal S50000x512 .f32) (g : IVec S50000 32) (e : FVec Ideal S50000 .f32) : FVec Ideal S64x512 .f32 :=
  Host.scatterAdd scatter_S64x512_S50000x1_S50000x512_1_0_0_1 (broadcastInDim S64x512 ![] bcast_S_S64x512 (constant S_ .f32 0x00000000#32)) (broadcastInDim S50000x1 ![0] bcast_S50000_S50000x1_0 g) (mulf x (broadcastInDim S50000x512 ![0, 1] bcast_S50000x1_S50000x512_0_1 (broadcastInDim S50000x1 ![0] bcast_S50000_S50000x1_0 (rWeight g e))))

/-- A row's score. -/
theorem rScore_apply (x : FVec Ideal S50000x512 .f32) (w : FVec Ideal S512x128 .f32) (p : FVec Ideal S128 .f32) (q : FVec Ideal S128x1 .f32)
    (z : FVec Ideal S1 .f32) (i : Fin 50000) :
    rScore x w p q z (ix1 i)
      = scoreOf (fun k => x (ix2 i k)) (fun k h => w (ix2 k h)) (fun h => p (ix1 h)) (fun h => q (ix2 h 0)) + z (ix1 0) := by
  unfold scoreOf
  pointwise [rScore]

/-- A segment's greatest score. -/
theorem rMax_apply (g : IVec S50000 32) (s : FVec Ideal S50000 .f32) (b : Fin 64) :
    rMax g s (ix1 b)
      = Finset.univ.fold max ⊥ fun i : Fin 50000 => if g (ix1 i) = BitVec.ofNat 32 b.val then (s (ix1 i) : EReal) else (⊥ : EReal) := by
  have hbot : Ideal.ofBits .f32 0xFF800000#32 = ⊥ := by simp [Ideal.ofBits, Ideal.ieee]
  have hfun : ∀ i : Fin 50000, (if g (ix1 i) = BitVec.ofNat 32 b.val then (s (ix1 i) : EReal) else (⊥ : EReal))
      = Scalar.select (IntOp.cmpi .eq (g (ix1 i)) (BitVec.ofNat 32 b.val)) (s (ix1 i)) (id (constant (F := Ideal) S_ .f32 4286578688#32) ix0) := by
    intro i
    rw [select_eq_word]
    exact if_congr Iff.rfl rfl hbot.symm
  simp only [hfun]
  rw [← hbot]
  pointwise [rMax]

/-- A row of segment `b` gathers the segment's entry. -/
theorem rIdx_apply (g : IVec S50000 32) (i : Fin 50000) (b : Fin 64) (h : g (ix1 i) = BitVec.ofNat 32 b.val) :
    rIdx g (ix2 i 0) = BitVec.ofNat 32 b.val := by
  have e : rIdx g (ix2 i 0) = Scalar.select (IntOp.cmpi .slt (g (ix1 i)) 0#32) (IntOp.addi (g (ix1 i)) 64#32) (g (ix1 i)) := by
    pointwise [rIdx]
  have hb := b.isLt
  rw [e, h]
  refine Routing.wrap_of_lt _ _ ?_
  rw [BitVec.toNat_ofNat]
  omega

/-- The exponential of a row of segment `b`. -/
theorem rExp_apply (g : IVec S50000 32) (s : FVec Ideal S50000 .f32) (i : Fin 50000) (b : Fin 64)
    (h : g (ix1 i) = BitVec.ofNat 32 b.val) : rExp g s (ix1 i) = Ideal.exp (s (ix1 i) - rMax g s (ix1 b)) := by
  have e : rExp g s (ix1 i) = Ideal.exp (s (ix1 i) - Host.gather gather_S64_S50000x1_S50000_n_0_n_n_0_1_1 (rMax g s) (rIdx g) (ix1 i)) := rfl
  rw [e, gather_apply (rMax g s) (rIdx g) i b (rIdx_apply g i b h)]

/-- Segment `b`'s sum of exponentials. -/
theorem rDen_apply (g : IVec S50000 32) (e : FVec Ideal S50000 .f32) (b : Fin 64) :
    rDen g e (ix1 b) = ∑ i : Fin 50000, if g (ix1 i) = BitVec.ofNat 32 b.val then (e (ix1 i) : EReal) else 0 := by
  have hg : ∀ i : Fin 50000, broadcastInDim S50000x1 ![0] bcast_S50000_S50000x1_0 g (ix2 i 0) = g (ix1 i) := by
    intro i; pointwise []
  have hz : broadcastInDim S64 ![] bcast_S_S64 (constant (F := Ideal) S_ .f32 0x00000000#32) (ix1 b) = (0 : EReal) :=
    Ideal.ofBits_zero_f32
  unfold rDen
  rw [scatter1_apply, hz]
  simp only [hg]
  exact zero_add _

/-- The softmax weight of a row of segment `b`. -/
theorem rWeight_apply (g : IVec S50000 32) (e : FVec Ideal S50000 .f32) (i : Fin 50000) (b : Fin 64)
    (h : g (ix1 i) = BitVec.ofNat 32 b.val) : rWeight g e (ix1 i) = Ideal.div (e (ix1 i)) (rDen g e (ix1 b)) := by
  have t : rWeight g e (ix1 i) = Ideal.div (e (ix1 i)) (Host.gather gather_S64_S50000x1_S50000_n_0_n_n_0_1_1 (rDen g e) (rIdx g) (ix1 i)) := by
    unfold rWeight
    generalize Host.gather gather_S64_S50000x1_S50000_n_0_n_n_0_1_1 (rDen g e) (rIdx g) = v
    rfl
  rw [t, gather_apply (rDen g e) (rIdx g) i b (rIdx_apply g i b h)]

/-- The pooled rows of segment `b`. -/
theorem rOut_apply (x : FVec Ideal S50000x512 .f32) (g : IVec S50000 32) (e : FVec Ideal S50000 .f32) (b : Fin 64) (c : Fin 512) :
    rOut x g e (ix2 b c)
      = ∑ i : Fin 50000, if g (ix1 i) = BitVec.ofNat 32 b.val
          then x (ix2 i c) * Ideal.div (e (ix1 i)) (∑ j : Fin 50000, if g (ix1 j) = BitVec.ofNat 32 b.val then (e (ix1 j) : EReal) else 0)
          else 0 := by
  have hg : ∀ i : Fin 50000, broadcastInDim S50000x1 ![0] bcast_S50000_S50000x1_0 g (ix2 i 0) = g (ix1 i) := by
    intro i; pointwise []
  have hz : broadcastInDim S64x512 ![] bcast_S_S64x512 (constant (F := Ideal) S_ .f32 0x00000000#32) (ix2 b c) = (0 : EReal) :=
    Ideal.ofBits_zero_f32
  have hu : ∀ i : Fin 50000, mulf x (broadcastInDim S50000x512 ![0, 1] bcast_S50000x1_S50000x512_0_1 (broadcastInDim S50000x1 ![0] bcast_S50000_S50000x1_0 (rWeight g e))) (ix2 i c)
      = x (ix2 i c) * rWeight g e (ix1 i) := by
    intro i; pointwise []
  unfold rOut
  rw [scatter2_apply, hz]
  simp only [hg, hu]
  refine (zero_add _).trans (Finset.sum_congr rfl fun i _ => ?_)
  by_cases h : g (ix1 i) = BitVec.ofNat 32 b.val
  · rw [if_pos h, if_pos h, rWeight_apply g e i b h, rDen_apply]
  · rw [if_neg h, if_neg h]

end Cert.Proof.Pool
-- ==== Proof.Value.lean ====
/-
  The two results are equal: the kernel's one division per segment is the reference's softmax.
-/
module

public import proofs.«01_k».proof.Proof.KernelValue
public import proofs.«01_k».proof.Proof.RefValue

@[expose] public section

noncomputable section

namespace Cert.Proof.Pool

open Idealize.ShloMosaic
open scoped BigOperators

variable (m : (ℓ : Loc Cert.KernelIdeal.nD Cert.KernelIdeal.τ Cert.KernelIdeal.sig) → Buf (Elt Ideal) ℓ) (d : Dev Cert.KernelIdeal.nD)

/-- The reference's scores at the kernel's arguments. -/
def kScore : FVec Ideal Cert.ReferenceIdeal.S50000 .f32 := rScore (argX m d) (argW1 m d) (argB1 m d) (argW2 m d) (argB2 m d)

/-- The kernel's result is the reference's at the kernel's arguments, when the scoring layer is finite. -/
theorem result_eq (hW : ∀ i, ∃ r : ℝ, argW2 m d i = (r : EReal)) (hB : ∀ i, ∃ r : ℝ, argB2 m d i = (r : EReal)) :
    result m d = rOut (argX m d) (argG m d) (rExp (argG m d) (kScore m d)) := by
  obtain ⟨β, hβ⟩ := hB (ix1 0)
  have hs : ∀ i, ∃ r : ℝ, score m d i = (r : EReal) := fun i => scoreOf_real _ _ _ _ fun h => hW _
  choose s hs using hs
  have hk : ∀ i, kScore m d (ix1 i) = (s i : EReal) + (β : EReal) := fun i => by
    unfold kScore
    rw [rScore_apply, hβ, ← hs i]
    rfl
  suffices key : ∀ (b : Fin 64) (c : Fin 512),
      result m d (ix2 b c) = rOut (argX m d) (argG m d) (rExp (argG m d) (kScore m d)) (ix2 b c) by
    funext y
    have hy : y = ix2 (y 0 : Fin 64) (y 1 : Fin 512) := (ValueIdx.eq_ix2 y).trans (ix2_eq_valueIdx _ _).symm
    exact (congrArg _ hy).trans ((key _ _).trans (congrArg _ hy).symm)
  intro b c
  have hw : ∀ i, weight m d b i = (if inSeg m d b i then 1 else 0) * ((Real.exp (s i) : ℝ) : EReal) := fun i => by
    unfold weight
    rw [hs, Ideal.exp_coe]
  have hsum : ∑ i, weight m d b i = ((expSum (inSeg m d b) s : ℝ) : EReal) := by
    rw [expSum_coe]
    refine Finset.sum_congr rfl fun i _ => ?_
    rw [hw]
    split
    · exact one_mul _
    · exact zero_mul _
  have hmax : rMax (argG m d) (kScore m d) (ix1 b) = segMax (inSeg m d b) s β := by
    rw [rMax_apply]
    unfold segMax
    simp only [hk]
  rw [result_apply, rOut_apply, hsum]
  simp only [hw]
  refine pool_eq (inSeg m d b) s β (fun i => argX m d (ix2 i c)) (fun i => rExp (argG m d) (kScore m d) (ix1 i)) fun i hi => ?_
  rw [rExp_apply _ _ i b hi, hk, hmax]

end Cert.Proof.Pool
-- ==== Proof.Finite.lean ====
/-
  The precondition read back: the scoring layer's weights and bias are real numbers.
-/
module

public import proofs.«01_k».proof.Proof.Gen.Pre_finite_scorer
public import Idealize.ShloMosaic.Lib.ReduceAll
public import Idealize.ShloMosaic.Lib.Pointwise

@[expose] public section

noncomputable section

namespace Cert.Proof.Pool

open Cert.Pre_finite_scorer Cert.Pre_finite_scorer.Gen
open Idealize.ShloMosaic

/-- An extended real whose absolute value is below infinity is real. -/
theorem real_of_abs_lt (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  unfold Ideal.cmp at h
  have hlt : max v (-v) < ⊤ := by
    by_contra hn
    have : decide (max v (-v) < ⊤) = false := decide_eq_false hn
    simp only [this] at h
    exact absurd h (by decide)
  rw [max_lt_iff] at hlt
  induction v using EReal.rec with
  | bot => exact absurd hlt.2 (by simp)
  | top => exact absurd hlt.1 (by simp)
  | coe r => exact ⟨r, rfl⟩

/-- What the precondition says. -/
theorem finite_scorer (a0 : FVec Ideal S50000x512 .f32) (a1 : IVec S50000 32) (a2 : FVec Ideal S512x128 .f32) (a3 : FVec Ideal S128 .f32)
    (a4 : FVec Ideal S128x1 .f32) (a5 : FVec Ideal S1 .f32) (h : fn (F := Ideal) a0 a1 a2 a3 a4 a5 = fun _ => 1#1) :
    (∀ i, ∃ r : ℝ, a4 i = (r : EReal)) ∧ (∀ i, ∃ r : ℝ, a5 i = (r : EReal)) := by
  have : Subsingleton S_.Idx := ⟨fun a b => funext fun k => k.elim0⟩
  have h0 := congrFun h ix0
  unfold fn at h0
  obtain ⟨hw, hb⟩ := IntOp.andi_eq_one.1 h0
  exact ⟨fun i => real_of_abs_lt (a4 i) (Host.reduce_andi_all _ _ _ _ _ hw i),
    fun i => real_of_abs_lt (a5 i) (Host.reduce_andi_all _ _ _ _ _ hb i)⟩

end Cert.Proof.Pool
-- ==== Proof.lean ====
/-
  The certificate's claims, assembled.
-/
module

public import proofs.«01_k».proof.Defs
public import proofs.«01_k».proof.Proof.Frames
public import proofs.«01_k».proof.Proof.Value
public import proofs.«01_k».proof.Proof.Finite
public import Idealize.ShloMosaic.Lib.Quiescent

@[expose] public section

noncomputable section

namespace Cert.Proof

open Idealize.ShloMosaic Idealize.SL.Sem

/-- The reference runs, keeps its arguments, and ends with every counter at zero: it has none. -/
theorem frame_reference : Cert.quiescent_ReferenceIdeal := fun m ρ _ =>
  (θ_run Cert.ReferenceIdeal.defs _ _).mono (fun r h =>
    ⟨fun c => (h c).2, sem_eq_zero_of_no_sems (by decide) r.2⟩) (Cert.ReferenceIdeal.Value.run (F := Ideal) m ρ)

/-- The reference's result is its stages, composed. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v44 m c
      = Pool.rOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (Pool.rExp (m ((c.tc : Thread Cert.ReferenceIdeal.nD Cert.ReferenceIdeal.τ).loc Cert.ReferenceIdeal.main_arg1))
            (Pool.rScore (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5)))) := by
  unfold Cert.ReferenceIdeal.Value.res_main_v44 Pool.rOut Pool.rWeight Pool.rDen Pool.rExp Pool.rMax Pool.rIdx Pool.rScore
  rfl

/-- The kernel's result is the reference's. -/
theorem value : Cert.algebraic_KernelIdeal_ReferenceIdeal_pre_finite_scorer := by
  intro m g m' g' hpre hargs
  refine ⟨fun c => Pool.result m c, ?_, ?_⟩
  · exact (θ_run Cert.KernelIdeal.defs _ _).mono (fun _ h c =>
      ⟨(h.1 c).2.2.2.2.2.2, (h.1 c).1, (h.1 c).2.1, (h.1 c).2.2.1, (h.1 c).2.2.2.1, (h.1 c).2.2.2.2.1, (h.1 c).2.2.2.2.2.1⟩)
      (Pool.run_main (F := Ideal) m g)
  · refine (θ_run Cert.ReferenceIdeal.defs _ _).mono (fun _ h c => ⟨(h c).1.trans ?_, (h c).2⟩) (Cert.ReferenceIdeal.Value.run (F := Ideal) m' g')
    obtain ⟨hW, hB⟩ := Pool.finite_scorer _ _ _ _ _ _ (hpre c)
    obtain ⟨h0, h1, h2, h3, h4, h5⟩ := hargs c
    rw [reference_result, h0, h1, h2, h3, h4, h5]
    exact (Pool.result_eq m c hW hB).symm

theorem claim : Cert.Claim :=
  ⟨Cert.Kernel.Gen.facts, Cert.KernelIdeal.Gen.facts, Cert.ReferenceIdeal.Gen.facts, Cert.Pre_finite_scorer.Gen.facts,
    Pool.frame_kernel, Pool.frame_kernelIdeal, fun m g _ => Pool.frame_kernelIdeal m g trivial,
    frame_reference, fun m g _ => frame_reference m g trivial, trivial, value⟩

end Cert.Proof

end
